-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_updates_agree [hPre_updates_agree : Cert.Pre_updates_agree.Facts] (m : (ℓ : Loc Cert.KernelIdeal.nD Cert.KernelIdeal.τ Cert.KernelIdeal.sig) → Buf (Elt Ideal) ℓ) : Prop :=
  ∀ c : Dev Cert.KernelIdeal.nD,
    (Cert.Pre_updates_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_updates_agree [hPre_updates_agree : Cert.Pre_updates_agree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_updates_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_updates_agree [hKernelIdeal : Cert.KernelIdeal.Facts] [hPre_updates_agree : Cert.Pre_updates_agree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_updates_agree m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_updates_agree [hReferenceIdeal : Cert.ReferenceIdeal.Facts] [hPre_updates_agree : Cert.Pre_updates_agree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_updates_agree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_updates_agree [hKernelIdeal : Cert.KernelIdeal.Facts] [hReferenceIdeal : Cert.ReferenceIdeal.Facts] [hPre_updates_agree : Cert.Pre_updates_agree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_updates_agree m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_idx_in_range : Cert.Pre_idx_in_range.Facts) (hPre_updates_agree : Cert.Pre_updates_agree.Facts),
    quiescent_Kernel (hKernel := hKernel) (hPre_idx_in_range := hPre_idx_in_range)
    ∧ quiescent_KernelIdeal (hKernelIdeal := hKernelIdeal) (hPre_idx_in_range := hPre_idx_in_range)
    ∧ quiescent_KernelIdeal_pre_updates_agree (hKernelIdeal := hKernelIdeal) (hPre_updates_agree := hPre_updates_agree)
    ∧ quiescent_ReferenceIdeal (hReferenceIdeal := hReferenceIdeal)
    ∧ quiescent_ReferenceIdeal_pre_updates_agree (hReferenceIdeal := hReferenceIdeal) (hPre_updates_agree := hPre_updates_agree)
    ∧ preserves_Kernel_KernelIdeal
    ∧ algebraic_KernelIdeal_ReferenceIdeal_pre_updates_agree (hKernelIdeal := hKernelIdeal) (hReferenceIdeal := hReferenceIdeal) (hPre_updates_agree := hPre_updates_agree)
-- ==== Pre_idx_in_range.lean ====
abbrev S33554432 : Shape := ⟨1, ![33554432]⟩
abbrev S1048576 : Shape := ⟨1, ![1048576]⟩
abbrev S_ : Shape := ⟨0, ![]⟩

class Facts : Prop where
  bcast_S_S1048576 : S_.BroadcastsInDim S1048576 (![] : Fin 0 → Fin S1048576.rank)

variable [Facts]

def fn {F : FTy → Type} [FloatOps F] (main_arg0 : FVec F S33554432 .f32) (main_arg1 : IVec S1048576 32) (main_arg2 : FVec F S1048576 .f32) : IVec S1048576 1 :=
  let main_c : IVec S_ 32 := constantI S_ 32 0#32
  let main_v0 : IVec S1048576 32 := broadcastInDim S1048576 ![] bcast_S_S1048576 main_c
  let main_v1 : IVec S1048576 1 := cmpi .sge main_arg1 main_v0
  let main_c_0 : IVec S_ 32 := constantI S_ 32 33554432#32
  let main_v2 : IVec S1048576 32 := broadcastInDim S1048576 ![] bcast_S_S1048576 main_c_0
  let main_v3 : IVec S1048576 1 := cmpi .slt main_arg1 main_v2
  let main_v4 : IVec S1048576 1 := andi main_v1 main_v3
  main_v4
-- ==== Pre_updates_agree.lean ====
abbrev S33554432 : Shape := ⟨1, ![33554432]⟩
abbrev S1048576 : Shape := ⟨1, ![1048576]⟩
abbrev S_ : Shape := ⟨0, ![]⟩
abbrev S1048576x1 : Shape := ⟨2, ![1048576, 1]⟩

class Facts : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  scatter_S33554432_S1048576x1_S1048576_n_0_0_1_wf : ScatterDims.WF S33554432 S1048576x1 S1048576 [] [0] [0] 1
  gather_S33554432_S1048576x1_S1048576_n_0_n_n_0_1_1_wf : GatherDims.WF S33554432 S1048576x1 S1048576 [] [0] [] [0] [] 1 ![1]

variable [Facts]

def scatter_S33554432_S1048576x1_S1048576_n_0_0_1 : ScatterDims S33554432 S1048576x1 S1048576 where
  updateWindowDims := []
  insertedWindowDims := [0]
  scatterDimsToOperandDims := [0]
  indexVectorDim := 1
  wf := scatter_S33554432_S1048576x1_S1048576_n_0_0_1_wf
def gather_S33554432_S1048576x1_S1048576_n_0_n_n_0_1_1 : GatherDims S33554432 S1048576x1 S1048576 where
  offsetDims := []
  collapsedSliceDims := [0]
  operandBatchingDims := []
  startIndicesBatchingDims := []
  startIndexMap := [0]
  indexVectorDim := 1
  sliceSizes := ![1]
  wf := gather_S33554432_S1048576x1_S1048576_n_0_n_n_0_1_1_wf
def fn_part1 {F : FTy → Type} [FloatOps F] (main_arg2 : FVec F S1048576 .f32) (main_v6 : FVec F S33554432 .f32) (main_v11 : IVec S1048576 1) (main_v17 : IVec S1048576x1 32) : IVec S1048576 1 :=
  let main_v18 : FVec F S1048576 .f32 := (fun x i => Host.gather gather_S33554432_S1048576x1_S1048576_n_0_n_n_0_1_1 x i) main_v6 main_v17
  let main_v19 : IVec S1048576 1 := cmpf .oeq main_v18 main_arg2
  let main_v20 : IVec S1048576 1 := andi main_v11 main_v19
  main_v20

def fn {F : FTy → Type} [FloatOps F] (main_arg0 : FVec F S33554432 .f32) (main_arg1 : IVec S1048576 32) (main_arg2 : FVec F S1048576 .f32) : IVec S1048576 1 :=
  let main_c : IVec S_ 32 := constantI S_ 32 0#32
  let main_v0 : IVec S1048576 32 := broadcastInDim S1048576 ![] bcast_S_S1048576 main_c
  let main_v1 : IVec S1048576 1 := cmpi .slt main_arg1 main_v0
  let main_c_0 : IVec S_ 32 := constantI S_ 32 33554432#32
  let main_v2 : IVec S1048576 32 := broadcastInDim S1048576 ![] bcast_S_S1048576 main_c_0
  let main_v3 : IVec S1048576 32 := addi main_arg1 main_v2
  let main_v4 : IVec S1048576 32 := select main_v1 main_v3 main_arg1
  let main_v5 : IVec S1048576x1 32 := broadcastInDim S1048576x1 ![0] bcast_S1048576_S1048576x1_0 main_v4
  let main_v6 : FVec F S33554432 .f32 := (fun x i u => Host.scatter scatter_S33554432_S1048576x1_S1048576_n_0_0_1 (fun _ b => b) x i u) main_arg0 main_v5 main_arg2
  let main_c_1 : IVec S_ 32 := constantI S_ 32 0#32
  let main_v7 : IVec S1048576 32 := broadcastInDim S1048576 ![] bcast_S_S1048576 main_c_1
  let main_v8 : IVec S1048576 1 := cmpi .sge main_arg1 main_v7
  let main_c_2 : IVec S_ 32 := constantI S_ 32 33554432#32
  let main_v9 : IVec S1048576 32 := broadcastInDim S1048576 ![] bcast_S_S1048576 main_c_2
  let main_v10 : IVec S1048576 1 := cmpi .slt main_arg1 main_v9
  let main_v11 : IVec S1048576 1 := andi main_v8 main_v10
  let main_c_3 : IVec S_ 32 := constantI S_ 32 0#32
  let main_v12 : IVec S1048576 32 := broadcastInDim S1048576 ![] bcast_S_S1048576 main_c_3
  let main_v13 : IVec S1048576 1 := cmpi .slt main_arg1 main_v12
  let main_c_4 : IVec S_ 32 := constantI S_ 32 33554432#32
  let main_v14 : IVec S1048576 32 := broadcastInDim S1048576 ![] bcast_S_S1048576 main_c_4
  let main_v15 : IVec S1048576 32 := addi main_arg1 main_v14
  let main_v16 : IVec S1048576 32 := select main_v13 main_v15 main_arg1
  let main_v17 : IVec S1048576x1 32 := broadcastInDim S1048576x1 ![0] bcast_S1048576_S1048576x1_0 main_v16
  fn_part1 (F := F) main_arg2 main_v6 main_v11 main_v17
-- ==== Kernel.lean ====
abbrev S33554432 : Shape := ⟨1, ![33554432]⟩
abbrev S1048576 : Shape := ⟨1, ![1048576]⟩
abbrev S8192x128 : Shape := ⟨2, ![8192, 128]⟩
abbrev S_ : Shape := ⟨0, ![]⟩
abbrev S16 : Shape := ⟨1, ![16]⟩
abbrev S1048592 : Shape := ⟨1, ![1048592]⟩
abbrev S16x128 : Shape := ⟨2, ![16, 128]⟩
abbrev S2064 : Shape := ⟨1, ![2064]⟩
abbrev S128 : Shape := ⟨1, ![128]⟩
abbrev S1x128 : Shape := ⟨2, ![1, 128]⟩

abbrev nBuf : Table → Nat
  | .hbm => 13
  | .local .scVector .vmem => 6
  | _ => 0

abbrev bufTy : (tb : Table) → Fin (nBuf tb) → BufTy
  | .hbm, ⟨0, _⟩ => ⟨S33554432, .f32⟩
  | .hbm, ⟨1, _⟩ => ⟨S1048576, .i32⟩
  | .hbm, ⟨2, _⟩ => ⟨S1048576, .f32⟩
  | .hbm, ⟨3, _⟩ => ⟨S1048576, .i32⟩
  | .hbm, ⟨4, _⟩ => ⟨S1048576, .f32⟩
  | .hbm, ⟨5, _⟩ => ⟨S8192x128, .i32⟩
  | .hbm, ⟨6, _⟩ => ⟨S_, .i32⟩
  | .hbm, ⟨7, _⟩ => ⟨S16, .i32⟩
  | .hbm, ⟨8, _⟩ => ⟨S1048592, .i32⟩
  | .hbm, ⟨9, _⟩ => ⟨S_, .f32⟩
  | .hbm, ⟨10, _⟩ => ⟨S16, .f32⟩
  | .hbm, ⟨11, _⟩ => ⟨S1048592, .f32⟩
  | .hbm, ⟨12, _⟩ => ⟨S33554432, .f32⟩
  | .local .scVector .vmem, ⟨0, _⟩ => ⟨S16x128, .i32⟩
  | .local .scVector .vmem, ⟨1, _⟩ => ⟨S16x128, .i32⟩
  | .local .scVector .vmem, ⟨2, _⟩ => ⟨S2064, .i32⟩
  | .local .scVector .vmem, ⟨3, _⟩ => ⟨S2064, .i32⟩
  | .local .scVector .vmem, ⟨4, _⟩ => ⟨S2064, .f32⟩
  | .local .scVector .vmem, ⟨5, _⟩ => ⟨S2064, .f32⟩
  | _, _ => ⟨S33554432, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v1_scv : Ref sig .scVector := ⟨.hbm, 5, rfl⟩
abbrev main_v3_scv : Ref sig .scVector := ⟨.hbm, 8, rfl⟩
abbrev main_v5_scv : Ref sig .scVector := ⟨.hbm, 11, rfl⟩
abbrev main_v6_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v4 : BitVec 32 := Scalar.addi v2 c0_i32
  let c0_i32_244_r0 : BitVec 32 := 0#32
  ![v4.toNat, 0]
def k0_off2 (i : grid0.Coords) (c0_i32_0 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v3 : BitVec 32 := Scalar.muli v1 c32768_i32
  let v5 : BitVec 32 := Scalar.addi v3 c0_i32_0
  ![v5.toNat]
@[reducible] def k0_t1_loop : Scf.Loop 32 :=
  let c0_i32_2 : BitVec 32 := 0#32
  let c2_i32_3 : BitVec 32 := 2#32
  let v6 : BitVec 32 := Scalar.addi c0_i32_2 c2_i32_3
  let c1_i32 : BitVec 32 := 1#32
  ⟨c0_i32_2, v6, c1_i32⟩
@[reducible] def k0_t2_loop : Scf.Loop 32 :=
  let c0_i32_244 : BitVec 32 := 0#32
  let c128_i32_245 : BitVec 32 := 128#32
  let v267 : BitVec 32 := Scalar.addi c0_i32_244 c128_i32_245
  let c1_i32_246 : BitVec 32 := 1#32
  ⟨c0_i32_244, v267, c1_i32_246⟩
def k0_off3 (k0_t2 : Fin k0_t2_loop.trips) : Fin 1 → Nat :=
  let c0_i32_244 : BitVec 32 := 0#32
  let c1_i32_246 : BitVec 32 := 1#32
  let arg16 : BitVec 32 := Scf.iv c0_i32_244 c1_i32_246 k0_t2
  let c16_i32_248 : BitVec 32 := 16#32
  let v268 : BitVec 32 := Scalar.muli arg16 c16_i32_248
  let v269 : Index := Scalar.indexCast v268
  ![v269.toNat]
def k0_off4 (k0_t2 : Fin k0_t2_loop.trips) : Fin 1 → Nat :=
  let c0_i32_244 : BitVec 32 := 0#32
  let c1_i32_246 : BitVec 32 := 1#32
  let arg16 : BitVec 32 := Scf.iv c0_i32_244 c1_i32_246 k0_t2
  let c16_i32_248 : BitVec 32 := 16#32
  let v268 : BitVec 32 := Scalar.muli arg16 c16_i32_248
  let c1_i32_249 : BitVec 32 := 1#32
  let v272 : BitVec 32 := Scalar.addi v268 c1_i32_249
  let v273 : Index := Scalar.indexCast v272
  ![v273.toNat]
@[reducible] def k0_t3_loop : Scf.Loop 32 :=
  let c0_i32_43 : BitVec 32 := 0#32
  let c2_i32_44 : BitVec 32 := 2#32
  let v73 : BitVec 32 := Scalar.addi c0_i32_43 c2_i32_44
  let c1_i32_45 : BitVec 32 := 1#32
  ⟨c0_i32_43, v73, c1_i32_45⟩
@[reducible] def k0_t4_loop : Scf.Loop 32 :=
  let c0_i32_244 : BitVec 32 := 0#32
  let c128_i32_245 : BitVec 32 := 128#32
  let v267 : BitVec 32 := Scalar.addi c0_i32_244 c128_i32_245
  let c1_i32_246 : BitVec 32 := 1#32
  ⟨c0_i32_244, v267, c1_i32_246⟩
def k0_off5 (k0_t4 : Fin k0_t4_loop.trips) : Fin 1 → Nat :=
  let c0_i32_244 : BitVec 32 := 0#32
  let c1_i32_246 : BitVec 32 := 1#32
  let arg16 : BitVec 32 := Scf.iv c0_i32_244 c1_i32_246 k0_t4
  let c16_i32_248 : BitVec 32 := 16#32
  let v268 : BitVec 32 := Scalar.muli arg16 c16_i32_248
  let v269 : Index := Scalar.indexCast v268
  ![v269.toNat]
def k0_off6 (k0_t4 : Fin k0_t4_loop.trips) : Fin 1 → Nat :=
  let c0_i32_244 : BitVec 32 := 0#32
  let c1_i32_246 : BitVec 32 := 1#32
  let arg16 : BitVec 32 := Scf.iv c0_i32_244 c1_i32_246 k0_t4
  let c16_i32_248 : BitVec 32 := 16#32
  let v268 : BitVec 32 := Scalar.muli arg16 c16_i32_248
  let c1_i32_249 : BitVec 32 := 1#32
  let v272 : BitVec 32 := Scalar.addi v268 c1_i32_249
  let v273 : Index := Scalar.indexCast v272
  ![v273.toNat]
@[reducible] def k0_t5_loop : Scf.Loop 32 :=
  let c0_i32_112 : BitVec 32 := 0#32
  let c7_i32_113 : BitVec 32 := 7#32
  let v138 : BitVec 32 := Scalar.addi c0_i32_112 c7_i32_113
  let c1_i32_114 : BitVec 32 := 1#32
  ⟨c0_i32_112, v138, c1_i32_114⟩
def k0_off7 (i : grid0.Coords) (k0_t5 : Fin k0_t5_loop.trips) (c2_i32_309 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_308 : BitVec 32 := 2#32
  let c0_i32_112 : BitVec 32 := 0#32
  let c1_i32_114 : BitVec 32 := 1#32
  let arg15 : BitVec 32 := Scf.iv c0_i32_112 c1_i32_114 k0_t5
  let v331 : BitVec 32 := Scalar.muli c2_i32_308 arg15
  let v332 : BitVec 32 := Scalar.addi v331 c2_i32_309
  let c16_i32_310 : BitVec 32 := 16#32
  let v333 : BitVec 32 := Scalar.muli v332 c16_i32_310
  let v334 : BitVec 32 := Scalar.addi v2 v333
  let c0_i32_518_r6 : BitVec 32 := 0#32
  ![v334.toNat, 0]
def k0_off8 (i : grid0.Coords) (k0_t5 : Fin k0_t5_loop.trips) (c2_i32_309 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v3 : BitVec 32 := Scalar.muli v1 c32768_i32
  let c2_i32_308 : BitVec 32 := 2#32
  let c0_i32_112 : BitVec 32 := 0#32
  let c1_i32_114 : BitVec 32 := 1#32
  let arg15 : BitVec 32 := Scf.iv c0_i32_112 c1_i32_114 k0_t5
  let v331 : BitVec 32 := Scalar.muli c2_i32_308 arg15
  let v332 : BitVec 32 := Scalar.addi v331 c2_i32_309
  let c2048_i32_311 : BitVec 32 := 2048#32
  let v335 : BitVec 32 := Scalar.muli v332 c2048_i32_311
  let v336 : BitVec 32 := Scalar.addi v3 v335
  ![v336.toNat]
@[reducible] def k0_t6_loop : Scf.Loop 32 :=
  let c0_i32_313 : BitVec 32 := 0#32
  let c2_i32_314 : BitVec 32 := 2#32
  let v337 : BitVec 32 := Scalar.addi c0_i32_313 c2_i32_314
  let c1_i32_315 : BitVec 32 := 1#32
  ⟨c0_i32_313, v337, c1_i32_315⟩
@[reducible] def k0_t7_loop : Scf.Loop 32 :=
  let c0_i32_518 : BitVec 32 := 0#32
  let c128_i32_519 : BitVec 32 := 128#32
  let v537 : BitVec 32 := Scalar.addi c0_i32_518 c128_i32_519
  let c1_i32_520 : BitVec 32 := 1#32
  ⟨c0_i32_518, v537, c1_i32_520⟩
def k0_off9 (k0_t7 : Fin k0_t7_loop.trips) : Fin 1 → Nat :=
  let c0_i32_518 : BitVec 32 := 0#32
  let c1_i32_520 : BitVec 32 := 1#32
  let arg17 : BitVec 32 := Scf.iv c0_i32_518 c1_i32_520 k0_t7
  let c16_i32_522 : BitVec 32 := 16#32
  let v538 : BitVec 32 := Scalar.muli arg17 c16_i32_522
  let v539 : Index := Scalar.indexCast v538
  ![v539.toNat]
def k0_off10 (k0_t7 : Fin k0_t7_loop.trips) : Fin 1 → Nat :=
  let c0_i32_518 : BitVec 32 := 0#32
  let c1_i32_520 : BitVec 32 := 1#32
  let arg17 : BitVec 32 := Scf.iv c0_i32_518 c1_i32_520 k0_t7
  let c16_i32_522 : BitVec 32 := 16#32
  let v538 : BitVec 32 := Scalar.muli arg17 c16_i32_522
  let c1_i32_523 : BitVec 32 := 1#32
  let v542 : BitVec 32 := Scalar.addi v538 c1_i32_523
  let v543 : Index := Scalar.indexCast v542
  ![v543.toNat]
@[reducible] def k0_t8_loop : Scf.Loop 32 :=
  let c0_i32_450 : BitVec 32 := 0#32
  let c2_i32_451 : BitVec 32 := 2#32
  let v472 : BitVec 32 := Scalar.addi c0_i32_450 c2_i32_451
  let c1_i32_452 : BitVec 32 := 1#32
  ⟨c0_i32_450, v472, c1_i32_452⟩
@[reducible] def k0_t9_loop : Scf.Loop 32 :=
  let c0_i32_518 : BitVec 32 := 0#32
  let c128_i32_519 : BitVec 32 := 128#32
  let v537 : BitVec 32 := Scalar.addi c0_i32_518 c128_i32_519
  let c1_i32_520 : BitVec 32 := 1#32
  ⟨c0_i32_518, v537, c1_i32_520⟩
def k0_off11 (k0_t9 : Fin k0_t9_loop.trips) : Fin 1 → Nat :=
  let c0_i32_518 : BitVec 32 := 0#32
  let c1_i32_520 : BitVec 32 := 1#32
  let arg17 : BitVec 32 := Scf.iv c0_i32_518 c1_i32_520 k0_t9
  let c16_i32_522 : BitVec 32 := 16#32
  let v538 : BitVec 32 := Scalar.muli arg17 c16_i32_522
  let v539 : Index := Scalar.indexCast v538
  ![v539.toNat]
def k0_off12 (k0_t9 : Fin k0_t9_loop.trips) : Fin 1 → Nat :=
  let c0_i32_518 : BitVec 32 := 0#32
  let c1_i32_520 : BitVec 32 := 1#32
  let arg17 : BitVec 32 := Scf.iv c0_i32_518 c1_i32_520 k0_t9
  let c16_i32_522 : BitVec 32 := 16#32
  let v538 : BitVec 32 := Scalar.muli arg17 c16_i32_522
  let c1_i32_523 : BitVec 32 := 1#32
  let v542 : BitVec 32 := Scalar.addi v538 c1_i32_523
  let v543 : Index := Scalar.indexCast v542
  ![v543.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S33554432 : Shape := ⟨1, ![33554432]⟩
abbrev S1048576 : Shape := ⟨1, ![1048576]⟩
abbrev S_ : Shape := ⟨0, ![]⟩
abbrev S1048576x1 : Shape := ⟨2, ![1048576, 1]⟩

abbrev nBuf : Space → Nat
  | .hbm => 12
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S1048576, .i32⟩
  | .hbm, ⟨2, _⟩ => ⟨S1048576, .f32⟩
  | .hbm, ⟨3, _⟩ => ⟨S_, .i32⟩
  | .hbm, ⟨4, _⟩ => ⟨S1048576, .i32⟩
  | .hbm, ⟨5, _⟩ => ⟨S1048576, .i1⟩
  | .hbm, ⟨6, _⟩ => ⟨S_, .i32⟩
  | .hbm, ⟨7, _⟩ => ⟨S1048576, .i32⟩
  | .hbm, ⟨8, _⟩ => ⟨S1048576, .i32⟩
  | .hbm, ⟨9, _⟩ => ⟨S1048576, .i32⟩
  | .hbm, ⟨10, _⟩ => ⟨S1048576x1, .i32⟩
  | .hbm, ⟨11, _⟩ => ⟨S33554432, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Program.lean ====
/-
  The tile's program by its pieces: copies in, the two passes of collapsing equal neighbours, the sixteen indirect
  scatters, and their waits, over memrefs that are variables; and that the kernel's tile task is these pieces in order.
-/
module

public import proofs.«01_k».proof.Proof.Gen.KernelIdeal.Skeleton

@[expose] public section

set_option synthInstance.maxSize 4096

noncomputable section

namespace Cert.Proof.Scatter

open Idealize.ShloMosaic Idealize.SL.Sem
open Cert.KernelIdeal Cert.KernelIdeal.Gen

variable {F : FTy → Type} [FloatOps F] {cc : Fin τ.nSC} {ss : Fin τ.nSub}

/-- A program of tile `ss` of SparseCore `cc`. -/
abbrev Tile (F : FTy → Type) [FloatOps F] (cc : Fin τ.nSC) (ss : Fin τ.nSub) (α : Type) : Type _ :=
  Prog (TpuEff nD τ sig (Elt F) Λ₀ (.scVector cc ss)) α

/-- A copy into a whole scratch buffer, on its own semaphore, and its wait. -/
def fetch {s : Shape} {e : EltTy} (he : e.bits = 32) (src : Memref sig .scVector .hbm s e) (dst : Memref sig .scVector .vmem s e)
    (hdst : dst.IsWhole) (sem : DmaSem sig) : Tile F cc ss PUnit := do
  Prog.lift (.enqueueDma src (.here dst) (.dma sem) (View.wordExact_bits he) hdst.wordExact ⟨Or.inl rfl, trivial⟩)
  Prog.lift (.waitDma2 sem src dst (View.wordExact_bits he) hdst.wordExact)

/-- Sixteen positions of a pass: a value whose position's index equals the next one's becomes the next value. -/
def passStep (iv : Memref sig .scVector .vmem S2064 .i32) (vv : Memref sig .scVector .vmem S2064 .f32)
    (t : Fin k0_t2_loop.trips) : Tile F cc ss Unit := do
  let a : Vec F S16 .i32 ← Prog.lift (.load iv (Rect.unit (s := S2064) (k0_off3 t) S16.size (k0_off3_inb t)).toLoadRect (View.loadsAt_vmem h_S16))
  let b : Vec F S16 .i32 ← Prog.lift (.load iv (Rect.unit (s := S2064) (k0_off4 t) S16.size (k0_off4_inb t)).toLoadRect (View.loadsAt_vmem h_S16))
  let v : Vec F S16 .f32 ← Prog.lift (.load vv (Rect.unit (s := S2064) (k0_off3 t) S16.size (k0_off3_inb t)).toLoadRect (View.loadsAt_vmem h_S16))
  let vn : Vec F S16 .f32 ← Prog.lift (.load vv (Rect.unit (s := S2064) (k0_off4 t) S16.size (k0_off4_inb t)).toLoadRect (View.loadsAt_vmem h_S16))
  let _old : Vec F S16 .f32 ← Prog.lift (.load vv (Rect.unit (s := S2064) (k0_off3 t) S16.size (k0_off3_inb t)).toLoadRect (View.loadsAt_vmem h_S16))
  Prog.lift (.store vv (Rect.unit (s := S2064) (k0_off3 t) S16.size (k0_off3_inb t)) (k0_pay1 a b v vn) Finset.univ (View.stores_vmem_bits_univ h_S16 rfl) (.inl rfl))
  pure ⟨⟩

/-- One pass over the chunk. -/
def pass (iv : Memref sig .scVector .vmem S2064 .i32) (vv : Memref sig .scVector .vmem S2064 .f32) : Tile F cc ss Unit := do
  Scf.Loop.for k0_t2_loop k0_t2_ok ⟨⟩ (fun t _ => passStep iv vv t)
  pure ⟨⟩

/-- The two passes. -/
def passes (iv : Memref sig .scVector .vmem S2064 .i32) (vv : Memref sig .scVector .vmem S2064 .f32) : Tile F cc ss Unit :=
  Scf.Loop.for k0_t1_loop k0_t1_ok ⟨⟩ (fun _ _ => pass iv vv)

theorem inb_val (j : Fin 16) : ∀ a, (![128 * j.val] : Fin 1 → Nat) a + S128.size a ≤ S2064.size a := fun a => by
  match a with
  | 0 => show 128 * j.val + 128 ≤ 2064; omega

theorem inb_lst (j : Fin 16) : ∀ a, (![j.val, 0] : Fin 2 → Nat) a + S1x128.size a ≤ S16x128.size a := fun a => by
  match a with
  | 0 => show j.val + 1 ≤ 16; omega
  | 1 => show 0 + 128 ≤ 128; omega

/-- The values of list `j`: 128 of the chunk's. -/
abbrev valRow (vv : Memref sig .scVector .vmem S2064 .f32) (j : Fin 16) : Memref sig .scVector .vmem S128 .f32 :=
  vv.slice (Rect.unit (s := S2064) ![128 * j.val] S128.size (inb_val j)) (fun _ => rfl)

/-- List `j` of the chunk's indices. -/
abbrev lstRow (iv2 : Memref sig .scVector .vmem S16x128 .i32) (j : Fin 16) : Memref sig .scVector .vmem S128 .i32 :=
  (iv2.slice (Rect.unit (s := S16x128) ![j.val, 0] S1x128.size (inb_lst j)) (fun _ => rfl)).squeeze S128 squeezes_S1x128_S128

/-- The whole result buffer, as the kernel slices it. -/
abbrev outAll (out : Memref sig .scVector .hbm S33554432 .f32) : Memref sig .scVector .hbm S33554432 .f32 :=
  out.slice (Rect.unit (s := S33554432) ![0] S33554432.size inb_S33554432_S33554432_0) (fun _ => rfl)

/-- Issue the indirect scatter of list `j`. -/
def fire (out : Memref sig .scVector .hbm S33554432 .f32) (iv2 : Memref sig .scVector .vmem S16x128 .i32)
    (vv : Memref sig .scVector .vmem S2064 .f32) (sem : DmaSem sig) (j : Fin 16) : Tile F cc ss PUnit :=
  SparseCore.enqueueIndirectScatter rfl (valRow vv j) (outAll out) gathers_S33554432_S128 (lstRow iv2 j) rfl sem rfl (Or.inl rfl)

/-- Wait for the indirect scatter of list `j`. -/
def await (out : Memref sig .scVector .hbm S33554432 .f32)
    (vv : Memref sig .scVector .vmem S2064 .f32) (sem : DmaSem sig) (j : Fin 16) : Tile F cc ss PUnit :=
  SparseCore.waitIndirectScatter sem (valRow vv j) (outAll out) (View.wordExact_bits rfl) (View.wordExact_bits rfl)

/-- Do `p 0`, ..., `p (n - 1)` in order. -/
def seqN (p : Fin 16 → Tile F cc ss PUnit) : (n : ℕ) → n ≤ 16 → Tile F cc ss PUnit
  | 0, _ => pure ⟨⟩
  | n + 1, h => do seqN p n (by omega); p ⟨n, by omega⟩

/-- The sixteen scatters of a chunk. -/
def fires (out : Memref sig .scVector .hbm S33554432 .f32) (iv2 : Memref sig .scVector .vmem S16x128 .i32)
    (vv : Memref sig .scVector .vmem S2064 .f32) (sem : DmaSem sig) : Tile F cc ss PUnit :=
  seqN (fire out iv2 vv sem) 16 le_rfl

/-- Their waits. -/
def drain (out : Memref sig .scVector .hbm S33554432 .f32)
    (vv : Memref sig .scVector .vmem S2064 .f32) (sem : DmaSem sig) : Tile F cc ss PUnit :=
  seqN (await out vv sem) 16 le_rfl

/-- One set of scratch buffers: the lists, the flat indices, the values, the scatters' semaphore. -/
structure Bufs where
  iv2 : Memref sig .scVector .vmem S16x128 .i32
  hiv2 : iv2.IsWhole
  iv : Memref sig .scVector .vmem S2064 .i32
  hiv : iv.IsWhole
  vv : Memref sig .scVector .vmem S2064 .f32
  hvv : vv.IsWhole
  sem : DmaSem sig

/-- Stage a chunk and issue its scatters. -/
def stageFire (out : Memref sig .scVector .hbm S33554432 .f32) (b : Bufs)
    (s2 : Memref sig .scVector .hbm S16x128 .i32) (s3 : Memref sig .scVector .hbm S2064 .i32) (s4 : Memref sig .scVector .hbm S2064 .f32)
    (m2 m3 m4 : DmaSem sig) : Tile F cc ss PUnit := do
  fetch rfl s2 b.iv2 b.hiv2 m2
  fetch rfl s3 b.iv b.hiv m3
  fetch rfl s4 b.vv b.hvv m4
  let _ ← passes b.iv b.vv
  fires out b.iv2 b.vv b.sem

/-- A chunk's lists in HBM. -/
abbrev chunk2 (a : Memref sig .scVector .hbm S8192x128 .i32) (o : Fin 2 → Nat) (h : ∀ x, o x + S16x128.size x ≤ S8192x128.size x) :
    Memref sig .scVector .hbm S16x128 .i32 :=
  a.slice (Rect.unit (s := S8192x128) o S16x128.size h) (fun _ => rfl)

/-- A chunk's words in HBM, with the sixteen that follow. -/
abbrev chunk1 {e : EltTy} (a : Memref sig .scVector .hbm S1048592 e) (o : Fin 1 → Nat) (h : ∀ x, o x + S2064.size x ≤ S1048592.size x) :
    Memref sig .scVector .hbm S2064 e :=
  a.slice (Rect.unit (s := S1048592) o S2064.size h) (fun _ => rfl)

/-- The kernel's tile task by its pieces: two chunks staged, then seven rounds that each drain and restage both sets
    of buffers, then the last two drains. -/
def tile (i : grid0.Coords) (arg2 : Memref sig .scVector .hbm S8192x128 .i32) (harg2 : arg2.IsWhole) (arg3 : Memref sig .scVector .hbm S1048592 .i32) (harg3 : arg3.IsWhole) (arg4 : Memref sig .scVector .hbm S1048592 .f32) (harg4 : arg4.IsWhole) (arg5 : Memref sig .scVector .hbm S33554432 .f32) (harg5 : arg5.IsWhole) (arg6 : Memref sig .scVector .hbm S33554432 .f32) (harg6 : arg6.IsWhole) (arg7 : Memref sig .scVector .vmem S16x128 .i32) (harg7 : arg7.IsWhole) (arg8 : Memref sig .scVector .vmem S16x128 .i32) (harg8 : arg8.IsWhole) (arg9 : Memref sig .scVector .vmem S2064 .i32) (harg9 : arg9.IsWhole) (arg10 : Memref sig .scVector .vmem S2064 .i32) (harg10 : arg10.IsWhole) (arg11 : Memref sig .scVector .vmem S2064 .f32) (harg11 : arg11.IsWhole) (arg12 : Memref sig .scVector .vmem S2064 .f32) (harg12 : arg12.IsWhole) (arg13 : DmaSems sig S_) (arg14 : DmaSems sig S_) (v267_r0 : DmaSems sig S_) (v267_r1 : DmaSems sig S_) (v267_r2 : DmaSems sig S_) (v267_r3 : DmaSems sig S_) (v267_r4 : DmaSems sig S_) (v267_r5 : DmaSems sig S_) (v537_r6 : DmaSems sig S_) (v537_r7 : DmaSems sig S_) (v537_r8 : DmaSems sig S_) (v537_r9 : DmaSems sig S_) (v537_r10 : DmaSems sig S_) (v537_r11 : DmaSems sig S_) :
    Tile F ((i 0).castLE hcore0) ((i 1).castLE hsub0) PUnit := do
  let b0 : Bufs := ⟨arg7, harg7, arg9, harg9, arg11, harg11, arg13.sem⟩
  let b1 : Bufs := ⟨arg8, harg8, arg10, harg10, arg12, harg12, arg14.sem⟩
  stageFire arg5 b0 (chunk2 arg2 _ (k0_off1_inb i 0)) (chunk1 arg3 _ (k0_off2_inb i 0)) (chunk1 arg4 _ (k0_off2_inb i 0))
    v267_r0.sem v267_r1.sem v267_r2.sem
  stageFire arg5 b1 (chunk2 arg2 _ (k0_off1_inb i 1)) (chunk1 arg3 _ (k0_off2_inb i 1)) (chunk1 arg4 _ (k0_off2_inb i 1))
    v267_r3.sem v267_r4.sem v267_r5.sem
  let _ : Unit ← Scf.Loop.for k0_t5_loop k0_t5_ok () (fun t (_ : Unit) => do
    drain arg5 b0.vv b0.sem
    stageFire arg5 b0 (chunk2 arg2 _ (k0_off7_inb i t 0)) (chunk1 arg3 _ (k0_off8_inb i t 0)) (chunk1 arg4 _ (k0_off8_inb i t 0))
      v537_r6.sem v537_r7.sem v537_r8.sem
    drain arg5 b1.vv b1.sem
    stageFire arg5 b1 (chunk2 arg2 _ (k0_off7_inb i t 1)) (chunk1 arg3 _ (k0_off8_inb i t 1)) (chunk1 arg4 _ (k0_off8_inb i t 1))
      v537_r9.sem v537_r10.sem v537_r11.sem
    pure ())
  drain arg5 b0.vv b0.sem
  drain arg5 b1.vv b1.sem

end Cert.Proof.Scatter

end
-- ==== Proof.ScatterBatch.lean ====
/-
  An indirect scatter whose target may be named several times.

  The target array is in WRITE MODE (Lib/WriteMode.lean): every row transfer holds a share of the whole array's
  write-mode assertion, so two entries of one list, or of two lists in flight on two tiles, may name one element. The
  transfers of several scatters on one semaphore are one counted batch (Lib/Batch.lean); `wp_scatterBatch` issues the
  next `o` of its transfers by one indirect scatter.
-/
module

public import Idealize.ShloMosaic.Lib.SparseCore.Scatter
public import Idealize.ShloMosaic.Lib.SparseCore.Ops
public import Idealize.ShloMosaic.Lib.Batch
public import Idealize.ShloMosaic.Lib.WriteMode

@[expose] public section

noncomputable section

namespace Cert.Proof.Scatter

open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

omit [Preorder Lvl] in
/-- The issue rights still pending from `j` are the next `o` and those pending from `j + o`. -/
theorem bigSep_pending_add {n : ℕ} (Φ : Fin n → sProp 𝕄) (j o : ℕ) (h : j + o ≤ n) :
    bigSep (pending j) Φ
      = iprop(bigSep Finset.univ (fun k : Fin o => Φ ⟨j + k, by omega⟩) ∗ bigSep (pending (j + o)) Φ) := by
  classical
  let f : Fin o ↪ Fin n := ⟨fun k => ⟨j + k, by omega⟩, fun a b hab => by
    have := congrArg Fin.val hab; exact Fin.ext (by simpa using this)⟩
  have hsub : Finset.univ.map f ⊆ pending (n := n) j := fun t ht => by
    obtain ⟨k, -, rfl⟩ := Finset.mem_map.mp ht
    exact Finset.mem_filter.mpr ⟨Finset.mem_univ _, Nat.le_add_right _ _⟩
  have hd : pending (n := n) j \ Finset.univ.map f = pending (j + o) := by
    ext t
    refine ⟨fun ht => ?_, fun ht => ?_⟩
    · obtain ⟨h1, h2⟩ := Finset.mem_sdiff.mp ht
      have h1 : j ≤ t.val := (Finset.mem_filter.mp h1).2
      refine Finset.mem_filter.mpr ⟨Finset.mem_univ _, ?_⟩
      by_contra hlt
      exact h2 (Finset.mem_map.mpr ⟨⟨t.val - j, by omega⟩, Finset.mem_univ _,
        Fin.ext (by change j + (t.val - j) = t.val; omega)⟩)
    · have h1 : j + o ≤ t.val := (Finset.mem_filter.mp ht).2
      refine Finset.mem_sdiff.mpr ⟨Finset.mem_filter.mpr ⟨Finset.mem_univ _, by omega⟩, fun hk => ?_⟩
      obtain ⟨k, -, hk⟩ := Finset.mem_map.mp hk
      have : j + k.val = t.val := congrArg Fin.val hk
      omega
  rw [BI.bigSep_sdiff_split hsub, hd, SparseCore.bigSep_map]
  rfl

variable {defs : Defs nD τ sig (Elt F) Λ} (EC : UEmb Counters (MT nD τ sig Ix (Elt F) Name U Lvl)) (𝒱 : Variants) (c : Thread nD τ) (bd : Option 𝒱.V)
variable {emb : UEmb (WmRA nD τ sig (Elt F)) U} {ιwm : Name}
variable {sp : Space} {s₀ s si : Shape} {e : EltTy} {a : Nat} {α : Type} {Q : α → sProp (MT nD τ sig Ix (Elt F) Name U Lvl)}

local notation:60 ℓ " ⇝[" I "]{" q "} " f:max " ⇒ " g:max " @ " W:max => willBeTo emb ℓ I q f g W

/-- What row transfer `k` of an indirect scatter hands back: the share of the target's write-mode assertion, the row
    the list names marked written, the list's entry and the source's row. -/
def rowBack {src : Memref sig c.2.kind .vmem s e} {dst : Memref sig c.2.kind sp s₀ e} (hg : s₀.Gathers a s)
    {offs : Memref sig c.2.kind .vmem si .i32} (hn : si.numel = s.size hg.axis')
    (q qo : PosShare TreeShare) (fs : Buf (Elt F) (src.view.loc c)) (fo : Buf (Elt F) (offs.view.loc c))
    (hin : ∀ x, (offs.view.read (Elt F) fo x).toNat < s₀.size hg.axis)
    (S : Finset (Idx (dst.view.loc c))) (sh : PosShare TreeShare) (f : Buf (Elt F) (dst.view.loc c)) (g : Tgt (Elt F) (dst.view.loc c))
    (k : Fin (s.size hg.axis')) : sProp 𝕄 :=
  iprop(((dst.view.loc c ⇝[S]{sh} f ⇒ g @ (dst.view.slice (s₀.rowRect hg.axis (rows (offs.view.read (Elt F) fo) hn hin k))).set)
      ∗ (offs.view.loc c ↦[{offs.view.emb (si.rowMajor.symm (finCongr hn.symm k))}]{qo} fo))
    ∗ (src.view.loc c ↦[(src.view.slice (s.rowRect hg.axis' k)).set]{q} fs))

/-- An indirect scatter issues the next transfers of a counted batch: one per list entry, each holding a share of the
    target in write mode, the words in range and every source row admitted by the targets of the row it goes to. -/
theorem wp_scatterBatch [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    {S : Finset (Idx (dst.view.loc c))} {sh : Fin (s.size hg.axis') → PosShare TreeShare}
    {f : Buf (Elt F) (dst.view.loc c)} {g : Tgt (Elt F) (dst.view.loc c)}
    (ι : Ix) (N : ℕ) {n j : ℕ} (D : Fin n → sProp 𝕄) (hj : j + s.size hg.axis' ≤ n)
    (hin : ∀ x, (offs.view.read (Elt F) fo x).toNat < s₀.size hg.axis)
    (hS : dst.view.set ⊆ S)
    (hadm : ∀ k, (dst.view.slice (s₀.rowRect hg.axis (rows (offs.view.read (Elt F) fo) hn hin k))).Admitted (Elt F) g
      (scatterRowPayload c src hg fs k) Finset.univ)
    (hN : ∀ i, (dst.slice (s₀.rowRect hg.axis i) (s₀.stride_rowRect hg.axis i)).view.dmaCredit = N)
    (hD : ∀ k : Fin (s.size hg.axis'), rowBack (emb := emb) c hg hn q qo fs fo hin S (sh k) f g k ⊢ D ⟨j + k, by omega⟩) :
    iprop(wmInv emb ιwm ∗ (src.view.loc c ↦[src.view.set]{q} fs)
        ∗ (bigSep Finset.univ fun k => dst.view.loc c ⇝[S]{sh k} f ⇒ g @ ∅)
        ∗ (offs.view.loc c ↦[offs.view.set]{qo} fo) ∗ Batch EC c (.dma sem) ι N D j 0)
      ⊢ iprop((Batch EC c (.dma sem) ι N D (j + s.size hg.axis') 0 -∗ wp frame (wpE defs 𝒱 c bd) Set.univ (k ⟨⟩) Q)
          -∗ wp frame (wpE defs 𝒱 c bd) Set.univ (enqueueIndirectScatter hp src dst hg offs hn sem he hsp hr >>= k) Q) := by
  classical
  rw [enqueueIndirectScatter_bind]
  let St : Stream nD τ sig (Elt F) :=
    Stream.issued c offs.view hn sem (fun j w => (rowOf (s₀.size hg.axis) w).map (scatterRow c src dst hg sem he hsp hr j)) 0
  let r : Fin (s.size hg.axis') → Fin (s₀.size hg.axis) := rows (offs.view.read (Elt F) fo) hn hin
  let rd : Fin (s.size hg.axis') → RowDma τ sig (Elt F) c.2 sem := fun j => scatterRow c src dst hg sem he hsp hr j (r j)
  have hA : St.RowsAgree := by
    intro j x x' ρ ρ' h h'
    obtain ⟨_, _, rfl⟩ := Option.map_eq_some_iff.mp h
    obtain ⟨_, _, rfl⟩ := Option.map_eq_some_iff.mp h'
    rfl
  have hrd : ∀ j, St.row j (St.word fo j) = some (rd j) := fun j => by
    change (rowOf (s₀.size hg.axis) (offs.view.read (Elt F) fo (St.entry j))).map _ = _
    rw [rowOf_of_lt (hin _)]; rfl
  have hen : Function.Bijective St.entry :=
    (si.rowMajor.symm.bijective.comp (finCongr hn.symm).bijective)
  have hsrcset : ∀ j, (src.view.slice (s.rowRect hg.axis' j)).set = (rd j).src.view.set := fun j =>
    (View.set_cast (v := src.view.slice (s.rowRect hg.axis' j)) _ _).symm
  have hsum : ∑ j, (rd j).dst.view.dmaCredit = s.size hg.axis' * N := by
    rw [Finset.sum_congr rfl (fun j _ => hN (r j)), Finset.sum_const, Finset.card_univ, Fintype.card_fin, smul_eq_mul]
  unfold Batch
  iintro ⟨#Hwm, Hs, Ht, Ho, ⟨%γ, %γ₀, %κ, #Hinv, HI, H0, Hcred⟩⟩ Hk
  ihave HI' := (Entails.of_eq (bigSep_pending_add (fun t => count EC (γ t) 0) j (s.size hg.axis') hj)) $$ HI
  icases HI' with ⟨Hγ, HI⟩
  ihave Ho' := (Entails.of_eq (pointsTo_entries c offs.view St.entry hen qo fo)) $$ Ho
  ihave Hs' := (Entails.of_eq (pointsTo_rows c src.view hg.axis' q fs)) $$ Hs
  iapply (wp_enqueueIndirectDma 𝒱 c bd Set.univ (qo := qo) (fo := fo) (rd := rd) ι (s.size hg.axis' * N) hA hrd hsum) $$ [Ht Ho' Hs' Hγ]
  · have hrow : ∀ j', iprop((wmInv emb ιwm ∗ inv κ (batchBody EC (c, SemLoc.dma sem) N D γ γ₀))
          ∗ ((((dst.view.loc c ⇝[S]{sh j'} f ⇒ g @ ∅) ∗ St.heldEntry qo fo j')
          ∗ (src.view.loc c ↦[(src.view.slice (s.rowRect hg.axis' j')).set]{q} fs)) ∗ count EC (γ ⟨j + j', by omega⟩) 0))
        ⊢ iprop(St.heldEntry qo fo j' ∗ (St.heldEntry qo fo j' -∗ rowRes c (rd j'))) := fun j' => by
      iintro ⟨⟨#Hwm, #Hinv⟩, ⟨⟨Hr, He⟩, Hsq⟩, Hγj⟩
      isplitl [He]; · iexact He
      iintro He
      unfold rowRes
      iexists q, fs, iprop((dst.view.loc c ⇝[S]{sh j'} f ⇒ g @ (∅ ∪ (dst.view.slice (s₀.rowRect hg.axis (r j'))).set)) ∗ St.heldEntry qo fo j')
      isplitl [Hsq]; · iapply (Entails.of_eq (congrArg (fun I => (src.view.loc c ↦[I]{q} fs : sProp 𝕄)) (hsrcset j'))) $$ Hsq
      isplitl [Hr He]
      · iapply writeUpdate_frame
        isplitl [Hr]
        · iapply (willBeTo_writeUpdate (Ix := Ix) (Lvl := Lvl) (emb := emb) (ιwm := ιwm) c (v := dst.view.slice (s₀.rowRect hg.axis (r j')))
            (w := scatterRowPayload c src hg fs j') (S := S) (q := sh j') (f := f) (g := g) (W := ∅)
            ((View.set_slice_subset _ _).trans hS) (hadm j'))
          isplitr; · iexact Hwm
          iexact Hr
        · iexact He
      · have hback : iprop(((dst.view.loc c ⇝[S]{sh j'} f ⇒ g @ (∅ ∪ (dst.view.slice (s₀.rowRect hg.axis (r j'))).set)) ∗ St.heldEntry qo fo j')
              ∗ ((rd j').src.view.loc c ↦[(rd j').src.view.set]{q} fs)) ⊢ D ⟨j + j', by omega⟩ := by
          rw [Finset.empty_union, ← hsrcset j']
          exact hD j'
        rw [show (rd j').dst.view.amount (.dma sem) = N from hN (r j')]
        iapply (batch_creditUpdate EC ⟨j + j', by omega⟩ hback)
        isplitr; · iexact Hinv
        iexact Hγj
    unfold Stream.res
    ihave H1 := Transfers.bigSep_sep_in _ _ _ $$ [Ht Ho']; · isplitl [Ht] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr
    · isplitr <;> iassumption
    iexact H3
  · iintro Hcred'
    iapply Hk
    iexists γ, γ₀, κ
    isplitr; · iexact Hinv
    isplitl [HI]; · iexact HI
    isplitl [H0]; · iexact H0
    rw [show (j + s.size hg.axis') * N - 0 = (j * N - 0) + s.size hg.axis' * N by rw [Nat.add_mul]; omega, ← tallyAt_add]
    icombine Hcred Hcred' as H
    iexact H

end Cert.Proof.Scatter

end
-- ==== Proof.Shares.lean ====
/-
  A write-mode assertion split along the share into pieces, each with its own marks, and joined again: the joined
  assertion is marked where one of the pieces is.
-/
module

public import Idealize.ShloMosaic.Lib.SparseCore.Stream
public import Idealize.ShloMosaic.Lib.WriteMode

@[expose] public section

noncomputable section

namespace Cert.Proof.Scatter

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open PCS URA Auth

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

variable {emb : UEmb (WmRA nD τ sig Val) U}

local notation:60 ℓ " ⇝[" I "]{" q "} " f:max " ⇒ " g:max " @ " W:max => willBeTo emb ℓ I q f g W

variable {ℓ : Loc nD τ sig} {I : Finset (Idx ℓ)} {q q₁ q₂ : PosShare TreeShare} {f : Buf Val ℓ} {g : Tgt Val ℓ}

/-- A share splits in two, and the marks with it. -/
theorem willBe_share {W W₁ W₂ : Finset (Idx ℓ)} (h : q ∈ q₁ ·? q₂) (hW : ∀ i, i ∈ W ↔ i ∈ W₁ ∨ i ∈ W₂) :
    (ℓ ⇝[I]{q} f ⇒ g @ W : sProp 𝕄) = iprop((ℓ ⇝[I]{q₁} f ⇒ g @ W₁) ∗ (ℓ ⇝[I]{q₂} f ⇒ g @ W₂)) := by
  have hs := BI.Region.held_share (ι := (wmEmb (Name := Name) (Lvl := Lvl) Ix emb).toEmb) (k := ℓ) (I := I)
    (z := fun i => Region.WB.mk (f i) (g i) (decide (i ∈ W)))
    (x := fun i => Region.WB.mk (f i) (g i) (decide (i ∈ W₁))) (y := fun i => Region.WB.mk (f i) (g i) (decide (i ∈ W₂))) h
    (fun i _ => by
      have : decide (i ∈ W) = (decide (i ∈ W₁) || decide (i ∈ W₂)) := by
        rw [← Bool.decide_or]; exact decide_eq_decide.mpr (hW i)
      show Region.WB.mk (f i) (g i) (decide (i ∈ W)) ∈ _
      rw [this]; exact Region.WB.mem_mk_op_mk _ _ _ _)
  exact BI.Entails.antisymm hs.1 hs.2

/-- A share splits into the chain of `piece`s. -/
theorem willBe_pieces (n : ℕ) : ∀ (q : PosShare TreeShare) (W : Fin (n + 1) → Finset (Idx ℓ)) (V : Finset (Idx ℓ)),
    (∀ i, i ∈ V ↔ ∃ k, i ∈ W k) →
    (ℓ ⇝[I]{q} f ⇒ g @ V : sProp 𝕄) = bigSep Finset.univ fun k => ℓ ⇝[I]{piece q n k} f ⇒ g @ (W k) := by
  induction n with
  | zero =>
    intro q W V hV
    have h0 : ∀ k : Fin (0 + 1), k = 0 := fun k => Fin.ext (by omega)
    have : V = W 0 := Finset.ext fun i => by
      rw [hV]; exact ⟨fun ⟨k, hk⟩ => h0 k ▸ hk, fun h => ⟨0, h⟩⟩
    rw [this]
    exact (BI.bigSep_univ_of_subsingleton (0 : Fin 1) (Φ := fun k : Fin 1 => (ℓ ⇝[I]{piece q 0 k} f ⇒ g @ (W k) : sProp 𝕄))).symm
  | succ n ih =>
    intro q W V hV
    classical
    rw [willBe_share (W₁ := W 0) (W₂ := Finset.univ.biUnion fun k : Fin (n + 1) => W k.succ) (PosShare.mem_left_op_right q)
        (fun i => by
          rw [hV, Finset.mem_biUnion]
          constructor
          · rintro ⟨k, hk⟩
            rcases Fin.eq_zero_or_eq_succ k with rfl | ⟨k, rfl⟩
            · exact .inl hk
            · exact .inr ⟨k, Finset.mem_univ _, hk⟩
          · rintro (h | ⟨k, -, hk⟩)
            · exact ⟨_, h⟩
            · exact ⟨_, hk⟩),
      ih q.right (fun k => W k.succ) _ (fun i => by simp [Finset.mem_biUnion]),
      bigSep_univ_succ (Ix := Ix) (Name := Name) (U := U) (Lvl := Lvl) (m := n + 1)]
    congr 1

/-- A share splits into `o` pieces, and the marks with it. -/
theorem willBe_piecesOf {o : ℕ} (ho : 0 < o) (q : PosShare TreeShare) {W : Fin o → Finset (Idx ℓ)} {V : Finset (Idx ℓ)}
    (hV : ∀ i, i ∈ V ↔ ∃ k, i ∈ W k) :
    (ℓ ⇝[I]{q} f ⇒ g @ V : sProp 𝕄) = bigSep Finset.univ fun k : Fin o => ℓ ⇝[I]{pieceOf q o ho k} f ⇒ g @ (W k) := by
  obtain ⟨n, rfl⟩ : ∃ n, o = n + 1 := ⟨o - 1, by omega⟩
  exact willBe_pieces n q W V hV

end Cert.Proof.Scatter

end
-- ==== Proof.Setup.lean ====
/-
  The resource algebra of the proof and the names every module of it uses: the handshakes' rounds, the write mode of the
  result array, the transfers' counters; and the copy of a chunk into a scratch buffer.
-/
module

public import proofs.«01_k».proof.Proof.Program
public import proofs.«01_k».proof.Proof.ScatterBatch
public import proofs.«01_k».proof.Proof.Shares
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra -/

abbrev UH : Type := URounds (GSem nD τ sig) ℕ
abbrev UU (F : FTy → Type) : Type := UH × (WmRA nD τ sig (Elt F) × Counters)
abbrev MM (F : FTy → Type) : Type := MT nD τ sig (HIx 1) (Elt F) ℕ (UU F) ℕ

abbrev EH : Emb UH (MM F) := embL

/-- The write mode's component. -/
abbrev wemb : UEmb (WmRA nD τ sig (Elt F)) (UU F) := (UEmb.inl).trans UEmb.inr

/-- The transfers' counters. -/
abbrev EC : UEmb Counters (MM F) := countersEmb

abbrev 𝒱₀ : Variants := Variants.none

/-- Being in write mode. -/
abbrev wb (ℓ : Loc nD τ sig) (I : Finset (Idx ℓ)) (q : PosShare TreeShare) (f : Buf (Elt F) ℓ) (g : Tgt (Elt F) ℓ) (W : Finset (Idx ℓ)) : sProp (MM F) :=
  willBeTo (wemb (F := F)) ℓ I q f g W

instance (ℓ : Loc nD τ sig) (I : Finset (Idx ℓ)) (q : PosShare TreeShare) (f : Buf (Elt F) ℓ) (g : Tgt (Elt F) ℓ) (W : Finset (Idx ℓ)) :
    BI.Storable (upEmb : UEmb _ (MM F)) (wb ℓ I q f g W) := by unfold wb willBeTo; infer_instance

variable [FloatOps F]

/-- The weakest precondition of a tile's program. -/
abbrev twp (d : Dev nD) (cc : Fin τ.nSC) (ss : Fin τ.nSub) {α : Type} (p : Tile F cc ss α) (Q : α → sProp (MM F)) : sProp (MM F) :=
  wp frame (wpE (defs₀ (F := F)) 𝒱₀ (V d cc ss) none) Set.univ p Q

variable {d : Dev nD} {cc : Fin τ.nSC} {ss : Fin τ.nSub}

/-- Run a piece of which a triple is known, then the rest. -/
theorem twp_seq {α β : Type} {p : Tile F cc ss α} {k : α → Tile F cc ss β} {P : sProp (MM F)} {R : α → sProp (MM F)} {Q : β → sProp (MM F)}
    (h : P ⊢ twp d cc ss p R) : P ⊢ iprop((∀ a, R a -∗ twp d cc ss (k a) Q) -∗ twp d cc ss (p >>= k) Q) := by
  unfold twp
  rw [wp_bind]
  iintro HP HK
  iapply (wp_wand_r frame)
  isplitl [HP]
  · iapply h $$ HP
  · iexact HK

/-- A copy into a whole scratch buffer, and its wait. -/
theorem wp_fetch {s : Shape} {e : EltTy} (he : e.bits = 32) (hpos : 0 < s.numel) (src : Memref sig .scVector .hbm s e)
    (dst : Memref sig .scVector .vmem s e) (hdst : dst.IsWhole) (sem : DmaSem sig)
    {q : PosShare TreeShare} {S : Finset (Idx (src.view.loc (V d cc ss)))} (hS : src.view.set ⊆ S)
    (fs : Buf (Elt F) (src.view.loc (V d cc ss))) (fd : Buf (Elt F) (dst.view.loc (V d cc ss)))
    (O : CellTallies nD τ sig (HIx 1)) (W : Waits sig (HIx 1)) :
    iprop((src.view.loc (V d cc ss) ↦[S]{q} fs) ∗ (dst.view.loc (V d cc ss) ↦{fullShare} fd) ∗ semVal (V d cc ss, SemLoc.dma sem) 0
        ∗ owes (V d cc ss) O W ∗ Transfers.MayWaits (V d cc ss) (none : HIx 1) O)
      ⊢ twp d cc ss (fetch he src dst hdst sem) fun _ =>
        iprop((src.view.loc (V d cc ss) ↦[S]{q} fs)
          ∗ (∃ f' : Buf (Elt F) (dst.view.loc (V d cc ss)), ⌜dst.view.read (Elt F) f' = src.view.read (Elt F) fs⌝ ∗ (dst.view.loc (V d cc ss) ↦{fullShare} f'))
          ∗ semVal (V d cc ss, SemLoc.dma sem) 0 ∗ owes (V d cc ss) O (insert (SemLoc.dma sem, none) W)) := by
  iintro ⟨Hs, Hd, Hv, Ho, Hmw⟩
  ihave Hsp := (pointsTo_split_subset hS).1 $$ Hs
  icases Hsp with ⟨Hs, Hr⟩
  unfold fetch
  iapply (Transfers.wp_dmaLocal EC 𝒱₀ (V d cc ss) none (none : HIx 1) _ rfl (View.amount_pos _ _ hpos) (Finset.subset_univ _)) $$ [Hs Hd Hv]
  · isplitl [Hs]; · iexact Hs
    isplitl [Hd] <;> iassumption
  iintro HF
  ihave Hm := (Transfers.MayWaits.elim (SemLoc.dma sem)) $$ Hmw
  iapply (Transfers.wp_waitLocalO EC 𝒱₀ (V d cc ss) none (none : HIx 1) rfl) $$ [HF Ho Hm]
  · isplitl [HF]; · iexact HF
    isplitl [Ho] <;> iassumption
  iintro ⟨⟨Hd, Hs⟩, Hv, Ho⟩
  sl_step
  isplitl [Hs Hr]
  · iapply (pointsTo_split_subset hS).2
    isplitl [Hs] <;> iassumption
  isplitl [Hd]
  · iexists _
    isplitr
    rotate_left
    · iexact Hd
    · ipureintro
      rw [View.read_write_univ]
  isplitl [Hv] <;> iassumption

end Cert.Proof.Scatter

end
-- ==== Proof.Rows.lean ====
/-
  The rows of a chunk: where list `j`'s entry `k` and its value stand in the scratch buffers, which slot of the result
  they name, and a whole scratch buffer as its sixteen rows and the rest.
-/
module

public import proofs.«01_k».proof.Proof.Setup

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

/-- The index at coordinate `k` of a one-axis shape. -/
def at1 {n : ℕ} (k : ℕ) (h : k < n) : (⟨1, ![n]⟩ : Shape).Idx := fun a => match a with | ⟨0, _⟩ => ⟨k, h⟩

/-- The index at coordinates `j`, `k` of a two-axis shape. -/
def at2 {m n : ℕ} (j k : ℕ) (hj : j < m) (hk : k < n) : (⟨2, ![m, n]⟩ : Shape).Idx := fun a =>
  match a with | ⟨0, _⟩ => ⟨j, hj⟩ | ⟨1, _⟩ => ⟨k, hk⟩

theorem at1_val {n : ℕ} (k : ℕ) (h : k < n) : (at1 k h 0).val = k := rfl

theorem ext1 {n : ℕ} {x y : (⟨1, ![n]⟩ : Shape).Idx} (h : (x 0).val = (y 0).val) : x = y :=
  funext fun a => match a with | ⟨0, _⟩ => Fin.ext h

theorem ext2 {m n : ℕ} {x y : (⟨2, ![m, n]⟩ : Shape).Idx} (h : (x 0).val = (y 0).val) (h' : (x 1).val = (y 1).val) : x = y :=
  funext fun a => match a with | ⟨0, _⟩ => Fin.ext h | ⟨1, _⟩ => Fin.ext h'

variable {F : FTy → Type} {d : Dev nD} {cc : Fin τ.nSC} {ss : Fin τ.nSub}
variable {iv2 : Memref sig .scVector .vmem S16x128 .i32} {vv : Memref sig .scVector .vmem S2064 .f32}

/-- Entry `k` of a list of 128. -/
abbrev entryIdx (k : Fin 128) : S128.Idx := S128.rowMajor.symm (finCongr (rfl : S128.numel = 128).symm k)

theorem entryIdx_eq (k : Fin 128) : entryIdx k = at1 k.val k.isLt := by
  unfold entryIdx
  rw [Equiv.symm_apply_eq]
  refine Fin.ext ?_
  rw [Shape.rowMajor_val_one]; rfl

/-- Entry `k` of list `j` is word `(j, k)` of the lists. -/
theorem lstRow_emb (j : Fin 16) (k : Fin 128) : (lstRow iv2 j).view.emb (entryIdx k) = iv2.view.emb (at2 j.val k.val j.isLt k.isLt) := by
  rw [entryIdx_eq]
  show iv2.view.emb ((Rect.unit (s := S16x128) ![j.val, 0] S1x128.size (inb_lst j)).emb
      (Shape.reshapeEquiv squeezes_S1x128_S128.numel_eq (at1 k.val k.isLt))) = _
  rw [Shape.reshapeEquiv_eq_of_rowMajor (y := at2 0 k.val Nat.one_pos k.isLt)]
  · congr 1
    refine ext2 ?_ ?_
    · show j.val + 1 * 0 = j.val; omega
    · show 0 + 1 * k.val = k.val; omega
  · rw [Shape.rowMajor_val_two, Shape.rowMajor_val_one]
    show 0 * 128 + k.val = k.val; omega

theorem lstRow_read (fl : Buf (Elt F) (iv2.view.loc (V d cc ss))) (j : Fin 16) (k : Fin 128) :
    (lstRow iv2 j).view.read (Elt F) fl (entryIdx k) = iv2.view.read (Elt F) fl (at2 j.val k.val j.isLt k.isLt) := by
  rw [View.read_apply, View.read_apply, lstRow_emb]

/-- Position `k` of value row `j` is word `128 j + k` of the values. -/
theorem valRow_read (fv : Buf (Elt F) (vv.view.loc (V d cc ss))) (j : Fin 16) (x : S128.Idx) :
    (valRow vv j).view.read (Elt F) fv x
      = vv.view.read (Elt F) fv (at1 (128 * j.val + (x 0).val) (by have := (x 0).isLt; change (x 0).val < 128 at this; omega)) := by
  show vv.view.read (Elt F) fv ((Rect.unit (s := S2064) ![128 * j.val] S128.size (inb_val j)).emb x) = _
  congr 1
  refine ext1 ?_
  show 128 * j.val + 1 * (x 0).val = 128 * j.val + (x 0).val; omega

/-- The slots a word names: one if it is in range, none otherwise. -/
def slotsOf (w : BitVec 32) : Finset S33554432.Idx := Finset.univ.filter fun i => (i 0).val = w.toNat

theorem mem_slotsOf {w : BitVec 32} {i : S33554432.Idx} : i ∈ slotsOf w ↔ (i 0).val = w.toNat :=
  ⟨fun h => (Finset.mem_filter.mp h).2, fun h => Finset.mem_filter.mpr ⟨Finset.mem_univ _, h⟩⟩

/-- Row `r` of a one-axis array is its element `r`. -/
theorem mem_rowRect {n : ℕ} (ax : Fin 1) (r : Fin ((⟨1, ![n]⟩ : Shape).size ax)) (i : (⟨1, ![n]⟩ : Shape).Idx) :
    i ∈ ((⟨1, ![n]⟩ : Shape).rowRect ax r).set ↔ (i 0).val = r.val := by
  obtain rfl : ax = 0 := Subsingleton.elim _ _
  refine Rect.mem_set_unit.trans ?_
  constructor
  · intro h
    have h0 := h 0
    simp only [if_true] at h0
    have h1 : (i 0).val < r.val + 1 := h0.2
    have h2 : r.val ≤ (i 0).val := h0.1
    omega
  · intro h a
    obtain rfl : a = 0 := Subsingleton.elim _ _
    simp only [if_true]
    refine ⟨?_, ?_⟩
    · exact h.ge
    · show (i 0).val < r.val + 1; omega

/-- The sixteen value rows share nothing. -/
theorem valRow_disjoint (j j' : Fin 16) (h : j ≠ j') : Disjoint (valRow vv j).view.set (valRow vv j').view.set := by
  have hs : ∀ j, (valRow vv j).view.set = (Rect.unit (s := S2064) ![128 * j.val] S128.size (inb_val j)).set.map vv.view.emb :=
    fun j => View.set_slice _ _
  rw [hs, hs, Finset.disjoint_map, Finset.disjoint_left]
  intro i h1 h2
  have h1 := (Rect.mem_set_unit.mp h1) 0
  have h2 := (Rect.mem_set_unit.mp h2) 0
  have a1 : 128 * j.val ≤ (i 0).val ∧ (i 0).val < 128 * j.val + 128 := h1
  have a2 : 128 * j'.val ≤ (i 0).val ∧ (i 0).val < 128 * j'.val + 128 := h2
  exact h (Fin.ext (by omega))

/-- The sixteen lists share nothing. -/
theorem lstRow_disjoint (j j' : Fin 16) (h : j ≠ j') : Disjoint (lstRow iv2 j).view.set (lstRow iv2 j').view.set := by
  have hs : ∀ j, (lstRow iv2 j).view.set = (Rect.unit (s := S16x128) ![j.val, 0] S1x128.size (inb_lst j)).set.map iv2.view.emb :=
    fun j => (View.set_reshape (v := iv2.view.slice _) _).trans (View.set_slice _ _)
  rw [hs, hs, Finset.disjoint_map, Finset.disjoint_left]
  intro i h1 h2
  have h1 := (Rect.mem_set_unit.mp h1) 0
  have h2 := (Rect.mem_set_unit.mp h2) 0
  have a1 : j.val ≤ (i 0).val ∧ (i 0).val < j.val + 1 := h1
  have a2 : j'.val ≤ (i 0).val ∧ (i 0).val < j'.val + 1 := h2
  exact h (Fin.ext (by omega))

/-- Elements of a buffer held are those of some disjoint parts, and the rest. -/
theorem pointsTo_parts {ℓ : Loc nD τ sig} {q : PosShare TreeShare} {f : Buf (Elt F) ℓ} {n : ℕ} (K : Fin n → Finset (Idx ℓ))
    (h : ∀ j j', j ≠ j' → Disjoint (K j) (K j')) :
    (ℓ ↦{q} f : sProp (MM F)) ⊣⊢ iprop((bigSep Finset.univ fun j => ℓ ↦[K j]{q} f) ∗ (ℓ ↦[Finset.univ \ Finset.univ.biUnion K]{q} f)) := by
  rw [← pointsTo_biUnion Finset.univ K fun j _ j' _ => h j j']
  exact pointsTo_split_subset (Finset.subset_univ _)

end Cert.Proof.Scatter

end
-- ==== Proof.Fires.lean ====
/-
  A chunk's sixteen indirect scatters and their waits. All 2048 row transfers are one counted batch on the chunk's
  semaphore; each holds its share of the result array's write-mode assertion, its list entry and its value, and hands
  them back with the slot its entry names marked written.
-/
module

public import proofs.«01_k».proof.Proof.Rows

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- The result array, as a tile names it. -/
abbrev outV : Memref sig .scVector .hbm S33554432 .f32 := Memref.whole main_v6_scv

/-- The result array. -/
abbrev oL (d : Dev nD) (cc : Fin τ.nSC) (ss : Fin τ.nSub) : Loc nD τ sig := (outV).view.loc (V d cc ss)

/-- What the targets say of one update: a slot that the index names and that has a target is to hold the value. -/
def adm (g : S33554432.Idx → Option (Elt F .f32)) (w : BitVec 32) (x : Elt F .f32) : Prop :=
  ∀ i : S33554432.Idx, (i 0).val = w.toNat → ∀ u, g i = some u → x = u

/-- Word `(j, k)` of a chunk's lists. -/
def lix (j : Fin 16) (k : Fin 128) : S16x128.Idx := at2 j.val k.val j.isLt k.isLt

section Chunk

variable {d : Dev nD} {cc : Fin τ.nSC} {ss : Fin τ.nSub}
variable (iv2 : Memref sig .scVector .vmem S16x128 .i32) (vv : Memref sig .scVector .vmem S2064 .f32)
variable (sh : PosShare TreeShare) (f : S33554432.Idx → Elt F .f32) (g : S33554432.Idx → Option (Elt F .f32))
variable (fl : Buf (Elt F) (iv2.view.loc (V d cc ss))) (fv : Buf (Elt F) (vv.view.loc (V d cc ss)))

/-- The share of one row transfer. -/
abbrev rowSh (j : Fin 16) (k : Fin 128) : PosShare TreeShare := pieceOf sh (16 * 128) (by decide) (finProdFinEquiv (j, k))

/-- What one row transfer takes, its write-mode share with the marks `W`. -/
def rowHeld (W : Finset S33554432.Idx) (j : Fin 16) (k : Fin 128) : sProp (MM F) :=
  iprop(((wb (oL d cc ss) Finset.univ (rowSh sh j k) f g W)
      ∗ (iv2.view.loc (V d cc ss) ↦[{(lstRow iv2 j).view.emb (entryIdx k)}]{fullShare} fl))
    ∗ (vv.view.loc (V d cc ss) ↦[((valRow vv j).view.slice (S128.rowRect gathers_S33554432_S128.axis' k)).set]{fullShare} fv))

instance (W : Finset S33554432.Idx) (j : Fin 16) (k : Fin 128) :
    BI.Storable (upEmb : UEmb _ (MM F)) (rowHeld iv2 vv sh f g fl fv W j k) := by unfold rowHeld; infer_instance

/-- What one row transfer hands back. -/
def rowD (p : Fin (16 * 128)) : sProp (MM F) :=
  rowHeld iv2 vv sh f g fl fv
    (slotsOf (iv2.view.read (Elt F) fl (lix (finProdFinEquiv.symm p).1 (finProdFinEquiv.symm p).2)))
    (finProdFinEquiv.symm p).1 (finProdFinEquiv.symm p).2

instance (p : Fin (16 * 128)) : BI.Storable (upEmb : UEmb _ (MM F)) (rowD iv2 vv sh f g fl fv p) := by unfold rowD; infer_instance

theorem rowD_pair (j : Fin 16) (k : Fin 128) : rowD iv2 vv sh f g fl fv (finProdFinEquiv (j, k))
    = rowHeld iv2 vv sh f g fl fv (slotsOf (iv2.view.read (Elt F) fl (lix j k))) j k := by
  unfold rowD; simp only [Equiv.symm_apply_apply]

/-- What list `j`'s scatter takes. -/
def rowStuff (j : Fin 16) : sProp (MM F) :=
  iprop((vv.view.loc (V d cc ss) ↦[(valRow vv j).view.set]{fullShare} fv)
    ∗ (iv2.view.loc (V d cc ss) ↦[(lstRow iv2 j).view.set]{fullShare} fl)
    ∗ bigSep Finset.univ fun k : Fin 128 => wb (oL d cc ss) Finset.univ (rowSh sh j k) f g ∅)

/-- The slots a chunk's lists name. -/
def named (r : S16x128.Idx → BitVec 32) : Finset S33554432.Idx :=
  Finset.univ.biUnion fun p : Fin (16 * 128) => slotsOf (r (lix (finProdFinEquiv.symm p).1 (finProdFinEquiv.symm p).2))

/-- What is left of the two buffers beside the rows. -/
def restHeld : sProp (MM F) :=
  iprop((vv.view.loc (V d cc ss) ↦[Finset.univ \ Finset.univ.biUnion fun j : Fin 16 => (valRow vv j).view.set]{fullShare} fv)
    ∗ (iv2.view.loc (V d cc ss) ↦[Finset.univ \ Finset.univ.biUnion fun j : Fin 16 => (lstRow iv2 j).view.set]{fullShare} fl))

/-- The buffers and the chunk's share of the write mode, dealt to the sixteen scatters. -/
theorem stuff_split :
    iprop((vv.view.loc (V d cc ss) ↦{fullShare} fv) ∗ (iv2.view.loc (V d cc ss) ↦{fullShare} fl) ∗ (wb (oL d cc ss) Finset.univ sh f g ∅))
      ⊢ iprop((bigSep Finset.univ fun j => rowStuff iv2 vv sh f g fl fv j) ∗ restHeld iv2 vv fl fv) := by
  iintro ⟨Hv, Hl, Hw⟩
  ihave Hv := (pointsTo_parts (fun j : Fin 16 => (valRow vv j).view.set) valRow_disjoint).1 $$ Hv
  icases Hv with ⟨Hv, Hvr⟩
  ihave Hl := (pointsTo_parts (fun j : Fin 16 => (lstRow iv2 j).view.set) lstRow_disjoint).1 $$ Hl
  icases Hl with ⟨Hl, Hlr⟩
  ihave Hw := (Entails.of_eq ((willBe_piecesOf (emb := wemb) (ℓ := oL d cc ss) (I := Finset.univ) (f := f) (g := g) (o := 16 * 128) (by decide) sh (W := fun _ => ∅) (V := ∅) (fun i => by simp)).trans
    ((bigSep_univ_equiv finProdFinEquiv _).trans (bigSep_univ_prod _)))) $$ Hw
  isplitr [Hvr Hlr]
  · unfold rowStuff
    iapply (Transfers.bigSep_sep_in _ _ _)
    isplitl [Hv]; · iexact Hv
    iapply (Transfers.bigSep_sep_in _ _ _)
    isplitl [Hl] <;> iassumption
  · unfold restHeld
    isplitl [Hvr] <;> iassumption

/-- A family over the numbered pairs, gathered by rows. -/
theorem bigSep_pairs {X : Fin 16 × Fin 128 → sProp (MM F)} {Y : Fin 16 → sProp (MM F)}
    (h : ∀ j, iprop(bigSep Finset.univ fun k => X (j, k)) ⊢ Y j) :
    iprop(bigSep Finset.univ fun p : Fin (16 * 128) => X (finProdFinEquiv.symm p)) ⊢ bigSep Finset.univ Y := by
  rw [bigSep_univ_equiv finProdFinEquiv, bigSep_univ_prod]
  simp only [Equiv.symm_apply_apply]
  exact bigSep_mono fun j _ => h j

/-- What the drained transfers handed back is the buffers and the chunk's share, the slots its lists name marked. -/
theorem stuff_join :
    iprop((bigSep Finset.univ fun p => rowD iv2 vv sh f g fl fv p) ∗ restHeld iv2 vv fl fv)
      ⊢ iprop((vv.view.loc (V d cc ss) ↦{fullShare} fv) ∗ (iv2.view.loc (V d cc ss) ↦{fullShare} fl)
        ∗ (wb (oL d cc ss) Finset.univ sh f g (named (iv2.view.read (Elt F) fl)))) := by
  have hen : ∀ j : Fin 16, iprop(bigSep Finset.univ fun k : Fin 128 => (iv2.view.loc (V d cc ss) ↦[{(lstRow iv2 j).view.emb (entryIdx k)}]{fullShare} fl : sProp (MM F)))
      ⊢ (iv2.view.loc (V d cc ss) ↦[(lstRow iv2 j).view.set]{fullShare} fl : sProp (MM F)) := fun j =>
    Entails.of_eq (pointsTo_entries (V d cc ss) (lstRow iv2 j).view entryIdx
      ((S128.rowMajor.symm.bijective.comp (finCongr (rfl : S128.numel = 128).symm).bijective)) fullShare fl).symm
  have hrow : ∀ j : Fin 16, iprop(bigSep Finset.univ fun k : Fin 128 => (vv.view.loc (V d cc ss) ↦[((valRow vv j).view.slice (S128.rowRect gathers_S33554432_S128.axis' k)).set]{fullShare} fv : sProp (MM F)))
      ⊢ (vv.view.loc (V d cc ss) ↦[(valRow vv j).view.set]{fullShare} fv : sProp (MM F)) := fun j =>
    Entails.of_eq (pointsTo_rows (V d cc ss) (valRow vv j).view gathers_S33554432_S128.axis' fullShare fv).symm
  have hw := (willBe_piecesOf (emb := wemb) (Ix := HIx 1) (Name := ℕ) (Lvl := ℕ) (ℓ := oL d cc ss) (I := Finset.univ) (f := f) (g := g) (o := 16 * 128) (by decide) sh
    (W := fun p => slotsOf (iv2.view.read (Elt F) fl (lix (finProdFinEquiv.symm p).1 (finProdFinEquiv.symm p).2)))
    (V := named (iv2.view.read (Elt F) fl)) (fun i => by unfold named; simp only [Finset.mem_biUnion, Finset.mem_univ, _root_.true_and]))
  iintro ⟨HD, Hr⟩
  unfold restHeld
  icases Hr with ⟨Hvr, Hlr⟩
  unfold rowD rowHeld
  ihave HD := (Transfers.bigSep_sep_out Finset.univ _ _) $$ HD
  icases HD with ⟨HD, Hv⟩
  ihave HD := (Transfers.bigSep_sep_out Finset.univ _ _) $$ HD
  icases HD with ⟨Hw, Hl⟩
  isplitl [Hv Hvr]
  · iapply (pointsTo_parts (fun j : Fin 16 => (valRow vv j).view.set) valRow_disjoint).2
    isplitl [Hv]
    · iapply (bigSep_pairs (X := fun p => (vv.view.loc (V d cc ss) ↦[((valRow vv p.1).view.slice (S128.rowRect gathers_S33554432_S128.axis' p.2)).set]{fullShare} fv : sProp (MM F))) hrow) $$ Hv
    · iexact Hvr
  isplitl [Hl Hlr]
  · iapply (pointsTo_parts (fun j : Fin 16 => (lstRow iv2 j).view.set) lstRow_disjoint).2
    isplitl [Hl]
    · iapply (bigSep_pairs (X := fun p => (iv2.view.loc (V d cc ss) ↦[{(lstRow iv2 p.1).view.emb (entryIdx p.2)}]{fullShare} fl : sProp (MM F))) hen) $$ Hl
    · iexact Hlr
  · iapply (Entails.of_eq hw.symm)
    simp only [rowSh, Equiv.apply_symm_apply, Prod.mk.eta]
    iexact Hw

end Chunk

section Run

variable [FloatOps F] {d : Dev nD} {cc : Fin τ.nSC} {ss : Fin τ.nSub}
variable {iv2 : Memref sig .scVector .vmem S16x128 .i32} {vv : Memref sig .scVector .vmem S2064 .f32} {sem : DmaSem sig}
variable {sh : PosShare TreeShare} {f : S33554432.Idx → Elt F .f32} {g : S33554432.Idx → Option (Elt F .f32)}
variable {fl : Buf (Elt F) (iv2.view.loc (V d cc ss))} {fv : Buf (Elt F) (vv.view.loc (V d cc ss))}

theorem outAll_emb (i : S33554432.Idx) : (outAll outV).view.emb i = i := by
  funext a
  match a with
  | 0 => exact Fin.ext (by show 0 + 1 * (i 0).val = _; omega)

/-- Every word of the lists names a slot. -/
abbrev InRange (iv2 : Memref sig .scVector .vmem S16x128 .i32) (fl : Buf (Elt F) (iv2.view.loc (V d cc ss))) : Prop :=
  ∀ x, (iv2.view.read (Elt F) fl x).toNat < 33554432

/-- Every value is one that the targets allow for its list's word. -/
abbrev RowsAdm (iv2 : Memref sig .scVector .vmem S16x128 .i32) (vv : Memref sig .scVector .vmem S2064 .f32)
    (g : S33554432.Idx → Option (Elt F .f32))
    (fl : Buf (Elt F) (iv2.view.loc (V d cc ss))) (fv : Buf (Elt F) (vv.view.loc (V d cc ss))) : Prop :=
  ∀ (j : Fin 16) (k : Fin 128), adm g (iv2.view.read (Elt F) fl (lix j k))
    (vv.view.read (Elt F) fv (at1 (128 * j.val + k.val) (by omega)))

theorem lst_inRange (hin : InRange iv2 fl) (j : Fin 16) (x : S128.Idx) :
    ((lstRow iv2 j).view.read (Elt F) fl x).toNat < 33554432 := hin _

/-- The element of row `r` of a one-axis array is number `r`. -/
theorem rowRect_emb_val {n : ℕ} (ax : Fin 1) (r : Fin ((⟨1, ![n]⟩ : Shape).size ax)) (y : ((⟨1, ![n]⟩ : Shape).rowRect ax r).shape.Idx) :
    (((⟨1, ![n]⟩ : Shape).rowRect ax r).emb y 0).val = r.val :=
  (mem_rowRect ax r _).mp (by rw [← Rect.map_emb_univ]; exact Finset.mem_map_of_mem _ (Finset.mem_univ y))

/-- An element read through a reshaped name of a memref is an element of the memref. -/
theorem read_memrefCast (thr : Thread nD τ) {sp : Space} {s s' : Shape} {e : EltTy} (m : Memref sig thr.2.kind sp s e) (h : s = s')
    (fb : Buf (Elt F) (m.view.loc thr)) (x : s'.Idx) :
    ∃ y, (m.cast h rfl).view.read (Elt F) fb x = m.view.read (Elt F) fb y := by
  subst h; exact ⟨x, rfl⟩

/-- One list's scatter. -/
theorem wp_fire {ιwm : ℕ} (hin : InRange iv2 fl) (ha : RowsAdm iv2 vv g fl fv) (j : Fin 16) :
    iprop(wmInv (wemb (F := F)) ιwm ∗ rowStuff iv2 vv sh f g fl fv j
        ∗ Batch EC (V d cc ss) (.dma sem) (none : HIx 1) 32 (rowD iv2 vv sh f g fl fv) (128 * j.val) 0)
      ⊢ twp d cc ss (fire outV iv2 vv sem j) fun _ =>
        (Batch EC (V d cc ss) (.dma sem) (none : HIx 1) 32 (rowD iv2 vv sh f g fl fv) (128 * (j.val + 1)) 0) := by
  have hrow : ∀ k : Fin 128, ((lstRow iv2 j).view.read (Elt F) fl (entryIdx k)).toNat
      = (iv2.view.read (Elt F) fl (lix j k)).toNat := fun k => congrArg BitVec.toNat (lstRow_read fl j k)
  unfold rowStuff
  iintro ⟨#Hwm, ⟨Hs, Hl, Hw⟩, HB⟩
  rw [show fire outV iv2 vv sem j = (fire outV iv2 vv sem j : Tile F cc ss PUnit) >>= pure from (bind_pure _).symm]
  unfold fire twp
  iapply (wp_scatterBatch (emb := wemb) (ιwm := ιwm) EC 𝒱₀ (V d cc ss) none (src := valRow vv j) (dst := outAll outV) (offs := lstRow iv2 j) (hg := gathers_S33554432_S128)
    (S := Finset.univ) (sh := fun k : Fin 128 => rowSh sh j k) (f := f) (g := g) (none : HIx 1) 32 (rowD iv2 vv sh f g fl fv)
    (show 128 * j.val + 128 ≤ 16 * 128 by omega) (lst_inRange hin j) (Finset.subset_univ _) ?_ (fun _ => rfl) ?_) $$ [Hs Hw Hl HB]
  · intro k x _ u hu
    have h1 : (outAll outV).view.emb ((S33554432.rowRect gathers_S33554432_S128.axis
        (SparseCore.rows ((lstRow iv2 j).view.read (Elt F) fl) (rfl : S128.numel = 128) (lst_inRange hin j) k)).emb x)
        = (S33554432.rowRect gathers_S33554432_S128.axis
        (SparseCore.rows ((lstRow iv2 j).view.read (Elt F) fl) (rfl : S128.numel = 128) (lst_inRange hin j) k)).emb x := outAll_emb _
    have h2 := rowRect_emb_val (n := 33554432) gathers_S33554432_S128.axis
        (SparseCore.rows ((lstRow iv2 j).view.read (Elt F) fl) (rfl : S128.numel = 128) (lst_inRange hin j) k) x
    have h3 := ha j k _ (h2.trans (hrow k)) u ((congrArg g h1.symm).trans hu)
    refine Eq.trans ?_ h3
    obtain ⟨y, hy⟩ := read_memrefCast (V d cc ss) ((valRow vv j).slice (S128.rowRect gathers_S33554432_S128.axis' k) (S128.stride_rowRect _ _))
      gathers_S33554432_S128.rowShape_eq (F := F) fv x
    refine hy.trans ?_
    have h4 := rowRect_emb_val (n := 128) gathers_S33554432_S128.axis' k y
    refine (valRow_read fv j ((S128.rowRect gathers_S33554432_S128.axis' k).emb y)).trans ?_
    exact congrArg (vv.view.read (Elt F) fv) (ext1 (congrArg (128 * j.val + ·) h4))
  · intro k
    have hp : (⟨128 * j.val + k.val, by have := k.isLt; change k.val < 128 at this; omega⟩ : Fin (16 * 128)) = finProdFinEquiv (j, (k : Fin 128)) :=
      Fin.ext (by show 128 * j.val + k.val = k.val + 128 * j.val; omega)
    have hset : ((outAll outV).view.slice (S33554432.rowRect gathers_S33554432_S128.axis
        (SparseCore.rows ((lstRow iv2 j).view.read (Elt F) fl) (rfl : S128.numel = 128) (lst_inRange hin j) k))).set
        = slotsOf (iv2.view.read (Elt F) fl (lix j k)) := by
      rw [View.set_slice]
      ext i
      rw [Finset.mem_map, mem_slotsOf, ← hrow k]
      constructor
      · rintro ⟨i', hi', rfl⟩
        rw [outAll_emb]
        exact (mem_rowRect (n := 33554432) _ _ _).mp hi'
      · exact fun h => ⟨i, (mem_rowRect (n := 33554432) _ _ _).mpr h, outAll_emb i⟩
    refine Entails.trans (Entails.of_eq ?_) (Entails.of_eq ((congrArg (rowD iv2 vv sh f g fl fv) hp).trans (rowD_pair iv2 vv sh f g fl fv j k)).symm)
    exact congrArg (fun X => iprop(((wb (oL d cc ss) Finset.univ (rowSh sh j k) f g X)
      ∗ (iv2.view.loc (V d cc ss) ↦[{(lstRow iv2 j).view.emb (entryIdx k)}]{fullShare} fl))
    ∗ (vv.view.loc (V d cc ss) ↦[((valRow vv j).view.slice (S128.rowRect gathers_S33554432_S128.axis' k)).set]{fullShare} fv))) hset
  · isplitr; · iexact Hwm
    isplitl [Hs]; · iexact Hs
    isplitl [Hw]; · iexact Hw
    isplitl [Hl]; · iexact Hl
    iexact HB
  · iintro HB
    sl_step
    iexact HB

/-- What the scatters of a chunk hold once the first `n` are issued. -/
def firesInv (iv2 : Memref sig .scVector .vmem S16x128 .i32) (vv : Memref sig .scVector .vmem S2064 .f32) (sem : DmaSem sig)
    (sh : PosShare TreeShare) (f : S33554432.Idx → Elt F .f32) (g : S33554432.Idx → Option (Elt F .f32))
    (fl : Buf (Elt F) (iv2.view.loc (V d cc ss))) (fv : Buf (Elt F) (vv.view.loc (V d cc ss))) (n : ℕ) : sProp (MM F) :=
  iprop((bigSep (pending n) fun j => rowStuff iv2 vv sh f g fl fv j)
    ∗ Batch EC (V d cc ss) (.dma sem) (none : HIx 1) 32 (rowD iv2 vv sh f g fl fv) (128 * n) 0)

theorem wp_seqFire {ιwm : ℕ} (hin : InRange iv2 fl) (ha : RowsAdm iv2 vv g fl fv) (n : ℕ) (h : n ≤ 16) :
    iprop(wmInv (wemb (F := F)) ιwm ∗ firesInv iv2 vv sem sh f g fl fv 0)
      ⊢ twp d cc ss (seqN (fire outV iv2 vv sem) n h) fun _ => firesInv iv2 vv sem sh f g fl fv n := by
  induction n with
  | zero =>
    iintro ⟨#Hwm, H⟩
    unfold seqN twp
    sl_step
    iexact H
  | succ n ih =>
    have hn : n ≤ 16 := by omega
    iintro ⟨#Hwm, H⟩
    unfold seqN
    iapply (twp_seq (ih hn)) $$ [H]
    · isplitr <;> iassumption
    iintro %_ H
    unfold firesInv
    icases H with ⟨Hs, HB⟩
    ihave Hs := (Entails.of_eq (Transfers.bigSep_pending_step _ n h)) $$ Hs
    icases Hs with ⟨H1, Hs⟩
    unfold twp
    iapply (wp_wand_r frame)
    isplitl [H1 HB]
    · iapply (wp_fire (ιwm := ιwm) hin ha ⟨n, h⟩)
      isplitr; · iexact Hwm
      isplitl [H1] <;> iassumption
    · iintro %_ HB
      isplitl [Hs] <;> iassumption

/-- The waits of the first `n` lists. -/
theorem wp_seqAwait (O : CellTallies nD τ sig (HIx 1)) (W : Waits sig (HIx 1)) (n : ℕ) (h : n ≤ 16) :
    iprop(Batch EC (V d cc ss) (.dma sem) (none : HIx 1) 32 (rowD iv2 vv sh f g fl fv) (16 * 128) 0
        ∗ Transfers.MayWaits (V d cc ss) (none : HIx 1) O ∗ owes (V d cc ss) O W)
      ⊢ twp d cc ss (seqN (await outV vv sem) n h) fun _ =>
        iprop(Batch EC (V d cc ss) (.dma sem) (none : HIx 1) 32 (rowD iv2 vv sh f g fl fv) (16 * 128) (128 * 32 * n)
          ∗ ∃ W', ⌜∀ p ∈ W', p ∈ W ∨ p.2 = none⌝ ∗ owes (V d cc ss) O W') := by
  induction n with
  | zero =>
    iintro ⟨HB, Hmw, Ho⟩
    unfold seqN twp
    sl_step
    isplitl [HB]; · iexact HB
    iexists W
    isplitr
    · ipureintro; exact fun p hp => .inl hp
    · iexact Ho
  | succ n ih =>
    have hn : n ≤ 16 := by omega
    iintro ⟨HB, #Hmw, Ho⟩
    unfold seqN
    iapply (twp_seq (ih hn)) $$ [HB Ho]
    · isplitl [HB]; · iexact HB
      isplitr; · iexact Hmw
      iexact Ho
    iintro %_ ⟨HB, %W', %hW', Ho⟩
    unfold await twp SparseCore.waitIndirectScatter
    ihave Hm := (Transfers.MayWaits.elim (SemLoc.dma sem)) $$ Hmw
    iapply (Transfers.wp_waitBatchMulO EC 𝒱₀ (V d cc ss) none (none : HIx 1) 128 (N := 32) (n := 16 * 128) (j := 16 * 128) (u := 128 * 32 * n) (D := rowD iv2 vv sh f g fl fv) (show _ = 128 * 32 from rfl) (by omega)) $$ [HB Ho Hm]
    · isplitl [HB]; · iexact HB
      isplitl [Ho] <;> iassumption
    iintro ⟨HB, Ho⟩
    sl_step
    isplitl [HB]; · iexact HB
    iexists _
    isplitr
    rotate_left
    · iexact Ho
    · ipureintro
      intro p hp
      rcases Finset.mem_insert.mp hp with rfl | hp
      · exact .inr rfl
      · exact hW' p hp

end Run

end Cert.Proof.Scatter

end
-- ==== Proof.Passes.lean ====
/-
  The passes over a chunk's values: whatever a pass does, each position's value stays one that an update of that
  position's index carries. A position takes its neighbour's value only where the two indices are equal.
-/
module

public import proofs.«01_k».proof.Proof.Setup
public import Idealize.ShloMosaic.Lib.Pointwise.Reshape

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {cc : Fin τ.nSC} {ss : Fin τ.nSub}
variable {iv : Memref sig .scVector .vmem S2064 .i32} {vv : Memref sig .scVector .vmem S2064 .f32}

/-- Every position's value is one that `adm` allows for its index. -/
def AllAdm (adm : BitVec 32 → Elt F .f32 → Prop) (iv : Memref sig .scVector .vmem S2064 .i32) (vv : Memref sig .scVector .vmem S2064 .f32)
    (fi : Buf (Elt F) (iv.view.loc (V d cc ss))) (fv : Buf (Elt F) (vv.view.loc (V d cc ss))) : Prop :=
  ∀ x : S2064.Idx, adm (iv.view.read (Elt F) fi x) (vv.view.read (Elt F) fv x)

/-- One value of a step: the neighbour's where the indices are equal, its own elsewhere. -/
theorem k0_pay1_apply (a b : Vec F S16 .i32) (v vn : Vec F S16 .f32) (x : S16.Idx) :
    k0_pay1 a b v vn x = if a x = b x then vn x else v x := by
  have key : ∀ p q : BitVec 32, BitVec.ofBool (p == q) = 1#1 ↔ p = q := fun p q => by
    by_cases h : p = q
    · simp [h]
    · rw [beq_eq_false_iff_ne.mpr h]; simp [h]
  have hc : ∀ {α : Type} (y : S16.Idx → α), shapeCast S16 y shapeCasts_S16_S16 = y := fun y => shapeCast_id _ _
  simp only [k0_pay1, hc]
  by_cases h : a x = b x
  · rw [if_pos h]; exact if_pos ((key _ _).mpr h)
  · rw [if_neg h]; exact if_neg (mt (key _ _).mp h)

variable {adm : BitVec 32 → Elt F .f32 → Prop} {fi : Buf (Elt F) (iv.view.loc (V d cc ss))} {fv : Buf (Elt F) (vv.view.loc (V d cc ss))}

/-- A step keeps every position's value allowed. -/
theorem AllAdm.passStep (h : AllAdm adm iv vv fi fv) (t : Fin k0_t2_loop.trips) :
    AllAdm adm iv vv fi ((vv.access (Rect.unit (s := S2064) (k0_off3 t) S16.size (k0_off3_inb t))).write (Elt F) fv
      (k0_pay1 ((iv.access (Rect.unit (s := S2064) (k0_off3 t) S16.size (k0_off3_inb t))).read (Elt F) fi)
        ((iv.access (Rect.unit (s := S2064) (k0_off4 t) S16.size (k0_off4_inb t))).read (Elt F) fi)
        ((vv.access (Rect.unit (s := S2064) (k0_off3 t) S16.size (k0_off3_inb t))).read (Elt F) fv)
        ((vv.access (Rect.unit (s := S2064) (k0_off4 t) S16.size (k0_off4_inb t))).read (Elt F) fv)) Finset.univ) := by
  intro x
  by_cases hx : x ∈ Finset.univ.map (Rect.unit (s := S2064) (k0_off3 t) S16.size (k0_off3_inb t)).emb
  · obtain ⟨y, -, rfl⟩ := Finset.mem_map.mp hx
    rw [View.read_slice_write_emb _ _ _ (Finset.mem_univ y), k0_pay1_apply]
    split
    · next he =>
      have := h ((Rect.unit (s := S2064) (k0_off4 t) S16.size (k0_off4_inb t)).emb y)
      have he' : iv.view.read (Elt F) fi ((Rect.unit (s := S2064) (k0_off3 t) S16.size (k0_off3_inb t)).emb y)
        = iv.view.read (Elt F) fi ((Rect.unit (s := S2064) (k0_off4 t) S16.size (k0_off4_inb t)).emb y) := he
      rw [he']; exact this
    · exact h _
  · rw [View.read_slice_write_of_not_mem _ _ _ _ hx]
    exact h x

/-- What the passes hold. -/
abbrev passInv (d : Dev nD) (cc : Fin τ.nSC) (ss : Fin τ.nSub) (adm : BitVec 32 → Elt F .f32 → Prop)
    (iv : Memref sig .scVector .vmem S2064 .i32) (vv : Memref sig .scVector .vmem S2064 .f32)
    (fi : Buf (Elt F) (iv.view.loc (V d cc ss))) : sProp (MM F) :=
  iprop((iv.view.loc (V d cc ss) ↦{fullShare} fi)
    ∗ ∃ fv : Buf (Elt F) (vv.view.loc (V d cc ss)), ⌜AllAdm adm iv vv fi fv⌝ ∗ (vv.view.loc (V d cc ss) ↦{fullShare} fv))

theorem wp_passStep (t : Fin k0_t2_loop.trips) :
    passInv d cc ss adm iv vv fi ⊢ twp d cc ss (passStep iv vv t) fun _ => passInv d cc ss adm iv vv fi := by
  iintro ⟨Hi, %fv, %h, Hv⟩
  unfold passStep
  iapply (wp_load 𝒱₀ (V d cc ss) none Set.univ (m := iv) (S := Finset.univ) (Finset.subset_univ _)) $$ Hi
  iintro Hi
  iapply (wp_load 𝒱₀ (V d cc ss) none Set.univ (m := iv) (S := Finset.univ) (Finset.subset_univ _)) $$ Hi
  iintro Hi
  iapply (wp_load 𝒱₀ (V d cc ss) none Set.univ (m := vv) (S := Finset.univ) (Finset.subset_univ _)) $$ Hv
  iintro Hv
  iapply (wp_load 𝒱₀ (V d cc ss) none Set.univ (m := vv) (S := Finset.univ) (Finset.subset_univ _)) $$ Hv
  iintro Hv
  iapply (wp_load 𝒱₀ (V d cc ss) none Set.univ (m := vv) (S := Finset.univ) (Finset.subset_univ _)) $$ Hv
  iintro Hv
  iapply (wp_store 𝒱₀ (V d cc ss) none Set.univ (m := vv) (r := Rect.unit (s := S2064) (k0_off3 t) S16.size (k0_off3_inb t)) (Mk := Finset.univ) (S := Finset.univ) (Finset.subset_univ _)) $$ Hv
  iintro Hv
  dsimp only [Prog.bind]
  sl_step
  isplitl [Hi]; · iexact Hi
  iexists _
  isplitr
  rotate_left
  · iexact Hv
  · ipureintro; exact h.passStep t

theorem wp_pass : passInv d cc ss adm iv vv fi ⊢ twp d cc ss (pass iv vv) fun _ => passInv d cc ss adm iv vv fi := by
  iintro H
  unfold pass
  iapply (Scf.wp_for_bind frame _ Set.univ _ _ _ k0_t2_ok ⟨⟩ _ (fun _ _ => passInv d cc ss adm iv vv fi) (fun k _ => wp_passStep k)) $$ H
  iintro %_ H
  sl_step
  iexact H

/-- The two passes leave every position's value allowed. -/
theorem wp_passes : passInv d cc ss adm iv vv fi ⊢ twp d cc ss (passes iv vv) fun _ => passInv d cc ss adm iv vv fi := by
  iintro H
  unfold passes
  iapply (Scf.wp_for frame _ Set.univ _ _ _ k0_t1_ok ⟨⟩ _ (fun _ _ => passInv d cc ss adm iv vv fi) (fun k _ => wp_pass))
  isplitl
  · iexact H
  iintro %_ H
  iexact H

end Cert.Proof.Scatter

end
-- ==== Proof.Chunk.lean ====
/-
  One chunk: staged, its equal neighbours collapsed and its scatters issued; and, later, its scatters waited for. In
  between, the chunk's buffers and its share of the write mode are the scatters'.
-/
module

public import proofs.«01_k».proof.Proof.Fires
public import proofs.«01_k».proof.Proof.Passes

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

section Held

variable (d : Dev nD) (cc : Fin τ.nSC) (ss : Fin τ.nSub) (b : Bufs)

/-- A set of scratch buffers at hand, their contents of no matter, nothing outstanding on their semaphore. -/
def freeBufs : sProp (MM F) :=
  iprop((∃ f, b.iv2.view.loc (V d cc ss) ↦{fullShare} f) ∗ (∃ f, b.iv.view.loc (V d cc ss) ↦{fullShare} f)
    ∗ (∃ f, b.vv.view.loc (V d cc ss) ↦{fullShare} f) ∗ semVal (V d cc ss, SemLoc.dma b.sem) 0)

/-- A chunk in flight: its scatters are issued and none is waited for; its lists name the slots `Wm`. -/
def inFlight (sh : PosShare TreeShare) (f : S33554432.Idx → Elt F .f32) (g : S33554432.Idx → Option (Elt F .f32))
    (Wm : Finset S33554432.Idx) : sProp (MM F) :=
  iprop(∃ (fl : Buf (Elt F) (b.iv2.view.loc (V d cc ss))) (fv : Buf (Elt F) (b.vv.view.loc (V d cc ss))), ⌜named (b.iv2.view.read (Elt F) fl) = Wm⌝
    ∗ Batch EC (V d cc ss) (.dma b.sem) (none : HIx 1) 32 (rowD (d := d) (cc := cc) (ss := ss) b.iv2 b.vv sh f g fl fv) (16 * 128) 0
    ∗ restHeld (d := d) (cc := cc) (ss := ss) b.iv2 b.vv fl fv ∗ (∃ fi, b.iv.view.loc (V d cc ss) ↦{fullShare} fi))

/-- What a tile owes, its waits so far all of the copies' kind beside `W`. -/
def owesMore (O : CellTallies nD τ sig (HIx 1)) (W : Waits sig (HIx 1)) : sProp (MM F) :=
  iprop(∃ W', ⌜∀ p ∈ W', p ∈ W ∨ p.2 = none⌝ ∗ owes (V d cc ss) O W')

end Held

variable [FloatOps F] {d : Dev nD} {cc : Fin τ.nSC} {ss : Fin τ.nSub} {b : Bufs}
variable {sh : PosShare TreeShare} {f : S33554432.Idx → Elt F .f32} {g : S33554432.Idx → Option (Elt F .f32)}

attribute [local irreducible] seqN

theorem wp_awaits {iv2 : Memref sig .scVector .vmem S16x128 .i32} {vv : Memref sig .scVector .vmem S2064 .f32} {sem : DmaSem sig}
    {fl : Buf (Elt F) (iv2.view.loc (V d cc ss))} {fv : Buf (Elt F) (vv.view.loc (V d cc ss))}
    (O : CellTallies nD τ sig (HIx 1)) (W : Waits sig (HIx 1)) :
    iprop(Batch EC (V d cc ss) (.dma sem) (none : HIx 1) 32 (rowD iv2 vv sh f g fl fv) (16 * 128) 0
        ∗ Transfers.MayWaits (V d cc ss) (none : HIx 1) O ∗ owes (V d cc ss) O W)
      ⊢ twp d cc ss (drain outV vv sem) fun _ =>
        iprop(Batch EC (V d cc ss) (.dma sem) (none : HIx 1) 32 (rowD iv2 vv sh f g fl fv) (16 * 128) (32 * (16 * 128))
          ∗ ∃ W', ⌜∀ p ∈ W', p ∈ W ∨ p.2 = none⌝ ∗ owes (V d cc ss) O W') := by
  unfold drain
  exact wp_seqAwait O W 16 le_rfl

theorem wp_fires {ιwm : ℕ} {iv2 : Memref sig .scVector .vmem S16x128 .i32} {vv : Memref sig .scVector .vmem S2064 .f32} {sem : DmaSem sig}
    {fl : Buf (Elt F) (iv2.view.loc (V d cc ss))} {fv : Buf (Elt F) (vv.view.loc (V d cc ss))}
    (hin : InRange iv2 fl) (ha : RowsAdm iv2 vv g fl fv) :
    iprop(wmInv (wemb (F := F)) ιwm ∗ firesInv iv2 vv sem sh f g fl fv 0)
      ⊢ twp d cc ss (fires outV iv2 vv sem) fun _ =>
        Batch EC (V d cc ss) (.dma sem) (none : HIx 1) 32 (rowD iv2 vv sh f g fl fv) (16 * 128) 0 := by
  unfold fires
  exact (wp_seqFire hin ha 16 le_rfl).trans (wp_mono frame _ _ fun _ => by unfold firesInv; exact sep_elim_right)

attribute [local irreducible] drain fires

/-- Waiting for a chunk's scatters gives back its buffers, and its share of the write mode with the slots its lists
    name marked. -/
theorem wp_drain {Wm : Finset S33554432.Idx} (O : CellTallies nD τ sig (HIx 1)) (W : Waits sig (HIx 1)) :
    iprop(inFlight d cc ss b sh f g Wm ∗ Transfers.MayWaits (V d cc ss) (none : HIx 1) O ∗ owesMore d cc ss O W)
      ⊢ twp d cc ss (drain outV b.vv b.sem) fun _ =>
        iprop(freeBufs d cc ss b ∗ wb (oL d cc ss) Finset.univ sh f g Wm ∗ owesMore d cc ss O W) := by
  unfold inFlight owesMore
  iintro ⟨⟨%fl, %fv, %hW, HB, Hrest, Hi⟩, Hmw, %W1, %hW1, Ho⟩
  rw [show (drain outV b.vv b.sem : Tile F cc ss PUnit) = drain outV b.vv b.sem >>= pure from (bind_pure _).symm]
  iapply (twp_seq (wp_awaits (iv2 := b.iv2) (vv := b.vv) (sem := b.sem) (sh := sh) (f := f) (g := g) (fl := fl) (fv := fv) O W1)) $$ [HB Hmw Ho]
  · isplitl [HB]; · iexact HB
    isplitl [Hmw] <;> iassumption
  iintro %_ ⟨HB, %W2, %hW2, Ho⟩
  unfold twp
  imod (Transfers.batch_collect' EC (V d cc ss) (N := 32) (by decide)) $$ [HB] with ⟨HD, Hsem⟩
  · iexact HB
  sl_step
  ihave H := (stuff_join b.iv2 b.vv sh f g fl fv) $$ [HD Hrest]
  · isplitl [HD] <;> iassumption
  icases H with ⟨Hv, Hl, Hw⟩
  rw [hW]
  isplitl [Hv Hl Hi Hsem]
  · unfold freeBufs
    isplitl [Hl]; · iexists _; iexact Hl
    isplitl [Hi]; · iexact Hi
    isplitl [Hv]; · iexists _; iexact Hv
    iexact Hsem
  isplitl [Hw]; · iexact Hw
  iexists W2
  isplitr
  · ipureintro
    intro p hp
    rcases hW2 p hp with h | h
    · exact hW1 p h
    · exact .inr h
  · iexact Ho

/-- Staging a chunk puts it in flight. -/
theorem wp_stageFire {ιwm : ℕ} {s2 : Memref sig .scVector .hbm S16x128 .i32} {s3 : Memref sig .scVector .hbm S2064 .i32} {s4 : Memref sig .scVector .hbm S2064 .f32}
    {m2 m3 m4 : DmaSem sig} {q2 q3 q4 : PosShare TreeShare}
    {f2 : Buf (Elt F) (s2.view.loc (V d cc ss))} {f3 : Buf (Elt F) (s3.view.loc (V d cc ss))} {f4 : Buf (Elt F) (s4.view.loc (V d cc ss))}
    (hin : ∀ x, (s2.view.read (Elt F) f2 x).toNat < 33554432)
    (hco : ∀ (j : Fin 16) (k : Fin 128), s2.view.read (Elt F) f2 (lix j k) = s3.view.read (Elt F) f3 (at1 (128 * j.val + k.val) (by omega)))
    (had : ∀ x, adm g (s3.view.read (Elt F) f3 x) (s4.view.read (Elt F) f4 x))
    (O : CellTallies nD τ sig (HIx 1)) (W : Waits sig (HIx 1)) :
    iprop(wmInv (wemb (F := F)) ιwm ∗ Transfers.MayWaits (V d cc ss) (none : HIx 1) O
        ∗ (s2.view.loc (V d cc ss) ↦{q2} f2) ∗ (s3.view.loc (V d cc ss) ↦{q3} f3) ∗ (s4.view.loc (V d cc ss) ↦{q4} f4)
        ∗ freeBufs d cc ss b ∗ wb (oL d cc ss) Finset.univ sh f g ∅
        ∗ semVal (V d cc ss, SemLoc.dma m2) 0 ∗ semVal (V d cc ss, SemLoc.dma m3) 0 ∗ semVal (V d cc ss, SemLoc.dma m4) 0
        ∗ owesMore d cc ss O W)
      ⊢ twp d cc ss (stageFire outV b s2 s3 s4 m2 m3 m4) fun _ =>
        iprop((s2.view.loc (V d cc ss) ↦{q2} f2) ∗ (s3.view.loc (V d cc ss) ↦{q3} f3) ∗ (s4.view.loc (V d cc ss) ↦{q4} f4)
          ∗ inFlight d cc ss b sh f g (named (s2.view.read (Elt F) f2))
          ∗ semVal (V d cc ss, SemLoc.dma m2) 0 ∗ semVal (V d cc ss, SemLoc.dma m3) 0 ∗ semVal (V d cc ss, SemLoc.dma m4) 0
          ∗ owesMore d cc ss O W) := by
  unfold owesMore freeBufs
  iintro ⟨#Hwm, #Hmw, H2, H3, H4, ⟨⟨%b2, Hl⟩, ⟨%b3, Hi⟩, ⟨%b4, Hv⟩, Hsem⟩, Hw, M2, M3, M4, %W1, %hW1, Ho⟩
  unfold stageFire
  iapply (twp_seq (wp_fetch rfl (by decide) s2 b.iv2 b.hiv2 m2 (Finset.subset_univ _) f2 b2 O W1)) $$ [H2 Hl M2 Ho]
  · isplitl [H2]; · iexact H2
    isplitl [Hl]; · iexact Hl
    isplitl [M2]; · iexact M2
    isplitl [Ho] <;> iassumption
  iintro %_ ⟨H2, ⟨%fl, %hfl, Hl⟩, M2, Ho⟩
  iapply (twp_seq (wp_fetch rfl (by decide) s3 b.iv b.hiv m3 (Finset.subset_univ _) f3 b3 O _)) $$ [H3 Hi M3 Ho]
  · isplitl [H3]; · iexact H3
    isplitl [Hi]; · iexact Hi
    isplitl [M3]; · iexact M3
    isplitl [Ho] <;> iassumption
  iintro %_ ⟨H3, ⟨%fi, %hfi, Hi⟩, M3, Ho⟩
  iapply (twp_seq (wp_fetch rfl (by decide) s4 b.vv b.hvv m4 (Finset.subset_univ _) f4 b4 O _)) $$ [H4 Hv M4 Ho]
  · isplitl [H4]; · iexact H4
    isplitl [Hv]; · iexact Hv
    isplitl [M4]; · iexact M4
    isplitl [Ho] <;> iassumption
  iintro %_ ⟨H4, ⟨%fv, %hfv, Hv⟩, M4, Ho⟩
  iapply (twp_seq (wp_passes (adm := adm g) (iv := b.iv) (vv := b.vv) (fi := fi))) $$ [Hi Hv]
  · isplitl [Hi]; · iexact Hi
    iexists fv
    isplitr
    · ipureintro; intro x; rw [hfi, hfv]; exact had x
    · iexact Hv
  iintro %_ ⟨Hi, %fv', %hadm, Hv⟩
  have hin' : InRange b.iv2 fl := fun x => by rw [hfl]; exact hin x
  have ha' : RowsAdm b.iv2 b.vv g fl fv' := fun j k => by
    have h := hadm (at1 (128 * j.val + k.val) (by omega))
    rw [hfi, ← hco] at h
    rw [hfl]; exact h
  rw [show (fires outV b.iv2 b.vv b.sem : Tile F cc ss PUnit) = fires outV b.iv2 b.vv b.sem >>= pure from (bind_pure _).symm]
  unfold twp
  imod (Transfers.batch_alloc' EC (V d cc ss) (none : HIx 1) 32 (rowD b.iv2 b.vv sh f g fl fv') (sm := .dma b.sem) (E := Set.univ)) $$ Hsem with HB
  ihave Hst := (stuff_split b.iv2 b.vv sh f g fl fv') $$ [Hv Hl Hw]
  · isplitl [Hv]; · iexact Hv
    isplitl [Hl] <;> iassumption
  icases Hst with ⟨Hrows, Hrest⟩
  iapply (twp_seq (wp_fires (iv2 := b.iv2) (vv := b.vv) (fl := fl) (fv := fv') (g := g) (sem := b.sem) (sh := sh) (f := f) hin' ha' (ιwm := ιwm))) $$ [Hrows HB]
  · isplitr; · iexact Hwm
    unfold firesInv
    isplitl [Hrows]
    · rw [Transfers.pending_zero]; iexact Hrows
    · iexact HB
  iintro %_ HB
  unfold twp
  sl_step
  isplitl [H2]; · iexact H2
  isplitl [H3]; · iexact H3
  isplitl [H4]; · iexact H4
  isplitl [HB Hrest Hi]
  · unfold inFlight
    iexists fl, fv'
    isplitr; · ipureintro; rw [hfl]
    isplitl [HB]; · iexact HB
    isplitl [Hrest]; · iexact Hrest
    iexists fi; iexact Hi
  isplitl [M2]; · iexact M2
  isplitl [M3]; · iexact M3
  isplitl [M4]; · iexact M4
  iexists _
  isplitr
  rotate_left
  · iexact Ho
  · ipureintro
    intro p hp
    rcases Finset.mem_insert.mp hp with rfl | hp; · exact .inr rfl
    rcases Finset.mem_insert.mp hp with rfl | hp; · exact .inr rfl
    rcases Finset.mem_insert.mp hp with rfl | hp; · exact .inr rfl
    exact hW1 p hp

end Cert.Proof.Scatter

end
-- ==== Proof.ProgramEq.lean ====
/-
  The printed tile task is `tile`: its parts unfold to the same operations in the same order.
-/
module

public import proofs.«01_k».proof.Proof.Program

@[expose] public section

set_option synthInstance.maxSize 4096

noncomputable section

namespace Cert.Proof.Scatter

open Idealize.ShloMosaic Idealize.SL.Sem
open Cert.KernelIdeal Cert.KernelIdeal.Gen

variable {F : FTy → Type} [FloatOps F]

theorem bind_eq {κ : Proc τ} {α β : Type} {x y : Prog (TpuEff nD τ sig (Elt F) Λ₀ κ) α}
    {f g : α → Prog (TpuEff nD τ sig (Elt F) Λ₀ κ) β} (h : x = y) (hf : ∀ a, f a = g a) : (x >>= f) = (y >>= g) := by
  rw [h, funext hf]

set_option maxRecDepth 65536 in
set_option maxHeartbeats 4000000 in
/-- The printed tile task is its pieces in order. -/
theorem cc0_scatter_eq (i : grid0.Coords) (arg2 : Memref sig .scVector .hbm S8192x128 .i32) (harg2 : arg2.IsWhole) (arg3 : Memref sig .scVector .hbm S1048592 .i32) (harg3 : arg3.IsWhole) (arg4 : Memref sig .scVector .hbm S1048592 .f32) (harg4 : arg4.IsWhole) (arg5 : Memref sig .scVector .hbm S33554432 .f32) (harg5 : arg5.IsWhole) (arg6 : Memref sig .scVector .hbm S33554432 .f32) (harg6 : arg6.IsWhole) (arg7 : Memref sig .scVector .vmem S16x128 .i32) (harg7 : arg7.IsWhole) (arg8 : Memref sig .scVector .vmem S16x128 .i32) (harg8 : arg8.IsWhole) (arg9 : Memref sig .scVector .vmem S2064 .i32) (harg9 : arg9.IsWhole) (arg10 : Memref sig .scVector .vmem S2064 .i32) (harg10 : arg10.IsWhole) (arg11 : Memref sig .scVector .vmem S2064 .f32) (harg11 : arg11.IsWhole) (arg12 : Memref sig .scVector .vmem S2064 .f32) (harg12 : arg12.IsWhole) (arg13 : DmaSems sig S_) (arg14 : DmaSems sig S_) (v267_r0 : DmaSems sig S_) (v267_r1 : DmaSems sig S_) (v267_r2 : DmaSems sig S_) (v267_r3 : DmaSems sig S_) (v267_r4 : DmaSems sig S_) (v267_r5 : DmaSems sig S_) (v537_r6 : DmaSems sig S_) (v537_r7 : DmaSems sig S_) (v537_r8 : DmaSems sig S_) (v537_r9 : DmaSems sig S_) (v537_r10 : DmaSems sig S_) (v537_r11 : DmaSems sig S_) :
    cc0_scatter (F := F) i arg2 harg2 arg3 harg3 arg4 harg4 arg5 harg5 arg6 harg6 arg7 harg7 arg8 harg8 arg9 harg9 arg10 harg10 arg11 harg11 arg12 harg12 arg13 arg14 v267_r0 v267_r1 v267_r2 v267_r3 v267_r4 v267_r5 v537_r6 v537_r7 v537_r8 v537_r9 v537_r10 v537_r11 = tile i arg2 harg2 arg3 harg3 arg4 harg4 arg5 harg5 arg6 harg6 arg7 harg7 arg8 harg8 arg9 harg9 arg10 harg10 arg11 harg11 arg12 harg12 arg13 arg14 v267_r0 v267_r1 v267_r2 v267_r3 v267_r4 v267_r5 v537_r6 v537_r7 v537_r8 v537_r9 v537_r10 v537_r11 := by
  rw [cc0_scatter_eq_skeleton]
  simp only [cc0_scatter_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, tile, stageFire, drain, fires, fetch, seqN, bind_assoc, pure_bind, bind_pure_unit, k0_t5_body]
  iterate 46 refine bind_eq rfl (fun _ => ?_)
  refine bind_eq (congrArg (Scf.Loop.for _ _ _) (funext fun t => funext fun _ => ?_)) (fun _ => ?_)
  · rw [k0_t5_body, k0_part11_eq_skeleton]
    simp only [k0_part11_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part1_skel, k0_part2_skel, k0_part3_skel, k0_part4_skel, k0_part5_skel, k0_part6_skel, k0_part7_skel, k0_part8_skel, k0_part9_skel, k0_part10_skel, bind_assoc, pure_bind, bind_pure_unit]
    iterate 77 refine bind_eq rfl (fun _ => ?_)
    rfl
  · iterate 31 refine bind_eq rfl (fun _ => ?_)
    rfl
end Cert.Proof.Scatter

end
-- ==== Proof.TileRun.lean ====
/-
  One tile's run: sixteen chunks, two in flight at a time, each holding its share of the write mode; at the end the
  tile's share of the write mode has exactly the slots marked that its part of the lists names.
-/
module

public import proofs.«01_k».proof.Proof.Chunk
public import proofs.«01_k».proof.Proof.ProgramEq

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## Where a chunk stands -/

/-- The number of a tile. -/
def tn (L : grid0.Coords) : ℕ := (L 1).val * 2 + (L 0).val

theorem tn_lt (L : grid0.Coords) : tn L < 32 := by
  have h0 : (L 0).val < 2 := (L 0).isLt
  have h1 : (L 1).val < 16 := (L 1).isLt
  unfold tn; omega

theorem off1_eq (L : grid0.Coords) (r : ℕ) (hr : r < 2) : k0_off1 L (BitVec.ofNat 32 (16 * r)) = ![tn L * 256 + 16 * r, 0] := by
  have h0 : (L 0).val < 2 := (L 0).isLt
  have h1 : (L 1).val < 16 := (L 1).isLt
  unfold k0_off1 tn
  simp only [Scalar.muli, Scalar.addi, IntOp.muli, IntOp.addi, BitVec.toNat_add, BitVec.toNat_mul, BitVec.toNat_ofNat, Nat.reducePow, Nat.reduceMod]
  congr 1
  omega

theorem off2_eq (L : grid0.Coords) (r : ℕ) (hr : r < 2) : k0_off2 L (BitVec.ofNat 32 (2048 * r)) = ![tn L * 32768 + 2048 * r] := by
  have h0 : (L 0).val < 2 := (L 0).isLt
  have h1 : (L 1).val < 16 := (L 1).isLt
  unfold k0_off2 tn
  simp only [Scalar.muli, Scalar.addi, IntOp.muli, IntOp.addi, BitVec.toNat_add, BitVec.toNat_mul, BitVec.toNat_ofNat, Nat.reducePow, Nat.reduceMod]
  congr 1
  omega

theorem trips5 : k0_t5_loop.trips = 7 := by decide

theorem off7_eq (L : grid0.Coords) (t : Fin k0_t5_loop.trips) (r : ℕ) (hr : r < 2) :
    k0_off7 L t (BitVec.ofNat 32 (2 + r)) = ![tn L * 256 + 16 * (2 * t.val + 2 + r), 0] := by
  have h0 : (L 0).val < 2 := (L 0).isLt
  have h1 : (L 1).val < 16 := (L 1).isLt
  have ht : t.val < 7 := trips5 ▸ t.isLt
  unfold k0_off7 tn
  simp only [Scalar.muli, Scalar.addi, IntOp.muli, IntOp.addi, Scf.iv, BitVec.toNat_add, BitVec.toNat_mul, BitVec.toNat_ofNat, Nat.reducePow, Nat.reduceMod]
  congr 1
  omega

theorem off8_eq (L : grid0.Coords) (t : Fin k0_t5_loop.trips) (r : ℕ) (hr : r < 2) :
    k0_off8 L t (BitVec.ofNat 32 (2 + r)) = ![tn L * 32768 + 2048 * (2 * t.val + 2 + r)] := by
  have h0 : (L 0).val < 2 := (L 0).isLt
  have h1 : (L 1).val < 16 := (L 1).isLt
  have ht : t.val < 7 := trips5 ▸ t.isLt
  unfold k0_off8 tn
  simp only [Scalar.muli, Scalar.addi, IntOp.muli, IntOp.addi, Scf.iv, BitVec.toNat_add, BitVec.toNat_mul, BitVec.toNat_ofNat, Nat.reducePow, Nat.reduceMod]
  congr 1
  omega

/-! ## What the three arrays say -/

/-- What a run asks of its three arrays: every word of the lists names a slot, the flat words are the lists' in order,
    and every value is one that the targets allow for its word. -/
structure Words (g : S33554432.Idx → Option (Elt F .f32)) (A2 : S8192x128.Idx → BitVec 32) (A3 : S1048592.Idx → BitVec 32)
    (A4 : S1048592.Idx → Elt F .f32) : Prop where
  inr : ∀ x, (A2 x).toNat < 33554432
  co : ∀ (r x : ℕ) (hr : r < 8192) (hx : x < 128), A2 (at2 r x hr hx) = A3 (at1 (128 * r + x) (by omega))
  ad : ∀ x, adm g (A3 x) (A4 x)

open Classical in
/-- The slots that chunk `k` of tile `w` names. -/
def chunkSlots (A2 : S8192x128.Idx → BitVec 32) (w k : ℕ) : Finset S33554432.Idx :=
  Finset.univ.filter fun i => ∃ (j : Fin 16) (x : Fin 128) (h : w * 256 + 16 * k + j.val < 8192),
    (i 0).val = (A2 (at2 (w * 256 + 16 * k + j.val) x.val h x.isLt)).toNat

open Classical in
/-- The slots that tile `w` names. -/
def tileSlots (A2 : S8192x128.Idx → BitVec 32) (w : ℕ) : Finset S33554432.Idx :=
  Finset.univ.filter fun i => ∃ k : Fin 16, i ∈ chunkSlots A2 w k.val

theorem mem_tileSlots {A2 : S8192x128.Idx → BitVec 32} {w : ℕ} {i : S33554432.Idx} :
    i ∈ tileSlots A2 w ↔ ∃ k : Fin 16, i ∈ chunkSlots A2 w k.val := by
  unfold tileSlots; simp only [Finset.mem_filter, Finset.mem_univ, _root_.true_and]

/-- The three arrays, as a tile names them. -/
abbrev a2V : Memref sig .scVector .hbm S8192x128 .i32 := Memref.whole main_v1_scv
abbrev a3V : Memref sig .scVector .hbm S1048592 .i32 := Memref.whole main_v3_scv
abbrev a4V : Memref sig .scVector .hbm S1048592 .f32 := Memref.whole main_v5_scv

variable {d : Dev nD} {cc : Fin τ.nSC} {ss : Fin τ.nSub}

theorem chunk2_read (A2 : S8192x128.Idx → BitVec 32) (o : Fin 2 → Nat) (h) {n : ℕ} (ho : o = ![n, 0]) (hn : n + 16 ≤ 8192) (x : S16x128.Idx) :
    (chunk2 a2V o h).view.read (Elt F) A2 x = A2 (at2 (n + (x 0).val) (x 1).val
      (by have h0 : (x 0).val < 16 := (x 0).isLt; omega) (x 1).isLt) := by
  subst ho
  show A2 ((Rect.unit (s := S8192x128) ![n, 0] S16x128.size h).emb x) = _
  congr 1
  refine ext2 ?_ ?_
  · show n + 1 * (x 0).val = n + (x 0).val; omega
  · show 0 + 1 * (x 1).val = (x 1).val; omega

theorem chunk3_read (A3 : S1048592.Idx → BitVec 32) (o : Fin 1 → Nat) (h) {n : ℕ} (ho : o = ![n]) (hn : n + 2064 ≤ 1048592) (x : S2064.Idx) :
    (chunk1 a3V o h).view.read (Elt F) A3 x = A3 (at1 (n + (x 0).val) (by have h0 : (x 0).val < 2064 := (x 0).isLt; omega)) := by
  subst ho
  show A3 ((Rect.unit (s := S1048592) ![n] S2064.size h).emb x) = _
  congr 1
  refine ext1 ?_
  show n + 1 * (x 0).val = n + (x 0).val; omega

theorem chunk4_read (A4 : S1048592.Idx → Elt F .f32) (o : Fin 1 → Nat) (h) {n : ℕ} (ho : o = ![n]) (hn : n + 2064 ≤ 1048592) (x : S2064.Idx) :
    (chunk1 a4V o h).view.read (Elt F) A4 x = A4 (at1 (n + (x 0).val) (by have h0 : (x 0).val < 2064 := (x 0).isLt; omega)) := by
  subst ho
  show A4 ((Rect.unit (s := S1048592) ![n] S2064.size h).emb x) = _
  congr 1
  refine ext1 ?_
  show n + 1 * (x 0).val = n + (x 0).val; omega

theorem named_chunk (A2 : S8192x128.Idx → BitVec 32) (o : Fin 2 → Nat) (h) {w k : ℕ} (hw : w < 32) (hk : k < 16) (ho : o = ![w * 256 + 16 * k, 0]) :
    named ((chunk2 a2V o h).view.read (Elt F) A2) = chunkSlots A2 w k := by
  ext i
  unfold named chunkSlots
  simp only [Finset.mem_biUnion, Finset.mem_univ, _root_.true_and, Finset.mem_filter, mem_slotsOf]
  constructor
  · rintro ⟨p, hp⟩
    refine ⟨(finProdFinEquiv.symm p).1, (finProdFinEquiv.symm p).2, by omega, ?_⟩
    rw [chunk2_read A2 o h ho (by omega)] at hp
    exact hp
  · rintro ⟨j, x, hj, hi⟩
    refine ⟨finProdFinEquiv (j, x), ?_⟩
    rw [Equiv.symm_apply_apply, chunk2_read A2 o h ho (by omega)]
    exact hi

/-! ## The chunks a tile has not yet staged, and those it is done with -/

variable [FloatOps F] (d cc ss)

/-- The share of chunk `k`. -/
def csh (shT : PosShare TreeShare) (k : ℕ) : PosShare TreeShare := pieceOf shT 16 (by decide) (Fin.ofNat 16 k)

/-- The first `n` chunks. -/
def doneSet (n : ℕ) : Finset (Fin 16) := Finset.univ.filter fun j => j.val < n

theorem doneSet_step (Φ : Fin 16 → sProp (MM F)) (n : ℕ) (h : n < 16) :
    iprop(Φ ⟨n, h⟩ ∗ bigSep (doneSet n) Φ) ⊢ bigSep (doneSet (n + 1)) Φ := by
  have : doneSet (n + 1) = insert ⟨n, h⟩ (doneSet n) := by
    ext j
    simp only [doneSet, Finset.mem_filter, Finset.mem_univ, _root_.true_and, Finset.mem_insert, Fin.ext_iff]
    omega
  rw [this, SparseCore.bigSep_insert' (by simp [doneSet])]

/-- The arrays' shares that a tile reads. -/
def srcs (q : PosShare TreeShare) (A2 : S8192x128.Idx → BitVec 32) (A3 : S1048592.Idx → BitVec 32) (A4 : S1048592.Idx → Elt F .f32) : sProp (MM F) :=
  iprop((a2V.view.loc (V d cc ss) ↦{q} A2) ∗ (a3V.view.loc (V d cc ss) ↦{q} A3) ∗ (a4V.view.loc (V d cc ss) ↦{q} A4))

/-- Three copy semaphores with nothing outstanding. -/
def sems3 (m2 m3 m4 : DmaSem sig) : sProp (MM F) :=
  iprop(semVal (V d cc ss, SemLoc.dma m2) 0 ∗ semVal (V d cc ss, SemLoc.dma m3) 0 ∗ semVal (V d cc ss, SemLoc.dma m4) 0)

variable {d cc ss}
variable {f : S33554432.Idx → Elt F .f32} {g : S33554432.Idx → Option (Elt F .f32)}
variable {A2 : S8192x128.Idx → BitVec 32} {A3 : S1048592.Idx → BitVec 32} {A4 : S1048592.Idx → Elt F .f32}

/-- Staging chunk `k` of tile `w`. -/
theorem wp_stageChunk {ιwm : ℕ} (b : Bufs) (hA : Words g A2 A3 A4) {w k : ℕ} (hw : w < 32) (hk : k < 16)
    {o2 : Fin 2 → Nat} {h2} {o1 : Fin 1 → Nat} {h3 h4} (e2 : o2 = ![w * 256 + 16 * k, 0]) (e1 : o1 = ![w * 32768 + 2048 * k])
    {m2 m3 m4 : DmaSem sig} {q sh : PosShare TreeShare} (O : CellTallies nD τ sig (HIx 1)) (W : Waits sig (HIx 1)) :
    iprop(wmInv (wemb (F := F)) ιwm ∗ Transfers.MayWaits (V d cc ss) (none : HIx 1) O
        ∗ srcs d cc ss q A2 A3 A4 ∗ freeBufs d cc ss b ∗ wb (oL d cc ss) Finset.univ sh f g ∅ ∗ sems3 (F := F) d cc ss m2 m3 m4 ∗ owesMore d cc ss O W)
      ⊢ twp d cc ss (stageFire outV b (chunk2 a2V o2 h2) (chunk1 a3V o1 h3) (chunk1 a4V o1 h4) m2 m3 m4) fun _ =>
        iprop(srcs d cc ss q A2 A3 A4 ∗ inFlight d cc ss b sh f g (chunkSlots A2 w k) ∗ sems3 (F := F) d cc ss m2 m3 m4 ∗ owesMore d cc ss O W) := by
  have hin : ∀ x, ((chunk2 a2V o2 h2).view.read (Elt F) A2 x).toNat < 33554432 := fun x => hA.inr _
  have hco : ∀ (j : Fin 16) (x : Fin 128), (chunk2 a2V o2 h2).view.read (Elt F) A2 (lix j x)
      = (chunk1 a3V o1 h3).view.read (Elt F) A3 (at1 (128 * j.val + x.val) (by omega)) := fun j x => by
    rw [chunk2_read A2 o2 h2 e2 (by omega), chunk3_read A3 o1 h3 e1 (by omega)]
    refine (hA.co (w * 256 + 16 * k + j.val) x.val (by omega) x.isLt).trans ?_
    congr 1
    refine ext1 ?_
    show 128 * (w * 256 + 16 * k + j.val) + x.val = w * 32768 + 2048 * k + (128 * j.val + x.val)
    omega
  have had : ∀ x, adm g ((chunk1 a3V o1 h3).view.read (Elt F) A3 x) ((chunk1 a4V o1 h4).view.read (Elt F) A4 x) := fun x => by
    rw [chunk3_read A3 o1 h3 e1 (by omega), chunk4_read A4 o1 h4 e1 (by omega)]
    exact hA.ad _
  have hs := wp_stageFire (d := d) (cc := cc) (ss := ss) (b := b) (sh := sh) (f := f) (g := g) (ιwm := ιwm) (m2 := m2) (m3 := m3) (m4 := m4)
    (q2 := q) (q3 := q) (q4 := q) hin hco had O W
  rw [named_chunk (F := F) A2 o2 h2 hw hk e2] at hs
  unfold srcs sems3
  iintro ⟨#Hwm, #Hmw, ⟨H2, H3, H4⟩, Hb, Hw, ⟨M2, M3, M4⟩, Ho⟩
  unfold twp
  iapply (wp_wand_r frame)
  isplitl
  · iapply hs
    isplitr; · iexact Hwm
    isplitr; · iexact Hmw
    isplitl [H2]; · iexact H2
    isplitl [H3]; · iexact H3
    isplitl [H4]; · iexact H4
    isplitl [Hb]; · iexact Hb
    isplitl [Hw]; · iexact Hw
    isplitl [M2]; · iexact M2
    isplitl [M3]; · iexact M3
    isplitl [M4]; · iexact M4
    iexact Ho
  iintro %_ ⟨H2, H3, H4, HF, M2, M3, M4, Ho⟩
  isplitl [H2 H3 H4]
  · isplitl [H2]; · iexact H2
    isplitl [H3] <;> iassumption
  isplitl [HF]; · iexact HF
  isplitl [M2 M3 M4]
  · isplitl [M2]; · iexact M2
    isplitl [M3] <;> iassumption
  iexact Ho

end Cert.Proof.Scatter

end
-- ==== Proof.TileLoop.lean ====
/-
  One tile's whole run.
-/
module

public import proofs.«01_k».proof.Proof.TileRun

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (cc : Fin τ.nSC) (ss : Fin τ.nSub)

attribute [local irreducible] drain fires seqN stageFire

/-- What is still to be staged, and what is done with. -/
def todoPart (sh : PosShare TreeShare) (f : S33554432.Idx → Elt F .f32) (g : S33554432.Idx → Option (Elt F .f32)) (n : ℕ) : sProp (MM F) :=
  bigSep (pending (n := 16) n) fun j => wb (oL d cc ss) Finset.univ (csh sh j.val) f g ∅

def donePart (sh : PosShare TreeShare) (f : S33554432.Idx → Elt F .f32) (g : S33554432.Idx → Option (Elt F .f32)) (A2 : S8192x128.Idx → BitVec 32) (w n : ℕ) : sProp (MM F) :=
  bigSep (doneSet n) fun j => wb (oL d cc ss) Finset.univ (csh sh j.val) f g (chunkSlots A2 w j.val)

theorem todo_step (sh : PosShare TreeShare) (f : S33554432.Idx → Elt F .f32) (g : S33554432.Idx → Option (Elt F .f32)) (n : ℕ) (h : n < 16) :
    todoPart d cc ss sh f g n ⊢ iprop(wb (oL d cc ss) Finset.univ (csh sh n) f g ∅ ∗ todoPart d cc ss sh f g (n + 1)) := by
  unfold todoPart
  rw [Transfers.bigSep_pending_step _ n h]

theorem done_step (sh : PosShare TreeShare) (f : S33554432.Idx → Elt F .f32) (g : S33554432.Idx → Option (Elt F .f32)) (A2 : S8192x128.Idx → BitVec 32) (w n : ℕ) (h : n < 16) :
    iprop(wb (oL d cc ss) Finset.univ (csh sh n) f g (chunkSlots A2 w n) ∗ donePart d cc ss sh f g A2 w n) ⊢ donePart d cc ss sh f g A2 w (n + 1) := by
  unfold donePart
  exact doneSet_step (F := F) (fun j => wb (oL d cc ss) Finset.univ (csh sh j.val) f g (chunkSlots A2 w j.val)) n h

theorem csh_val (sh : PosShare TreeShare) (j : Fin 16) : csh sh j.val = pieceOf sh 16 (by decide) j := by
  unfold csh
  congr 1
  exact Fin.ext (Nat.mod_eq_of_lt j.isLt)

theorem todo_all (sh : PosShare TreeShare) (f : S33554432.Idx → Elt F .f32) (g : S33554432.Idx → Option (Elt F .f32)) :
    wb (oL d cc ss) Finset.univ sh f g ∅ ⊢ todoPart d cc ss sh f g 0 := by
  unfold todoPart wb
  rw [Transfers.pending_zero, willBe_piecesOf (o := 16) (by decide) sh (W := fun _ => ∅) (by simp)]
  simp only [csh_val]
  exact .rfl

theorem done_all (sh : PosShare TreeShare) (f : S33554432.Idx → Elt F .f32) (g : S33554432.Idx → Option (Elt F .f32)) (A2 : S8192x128.Idx → BitVec 32) (w : ℕ) :
    donePart d cc ss sh f g A2 w 16 ⊢ wb (oL d cc ss) Finset.univ sh f g (tileSlots A2 w) := by
  unfold donePart wb
  rw [willBe_piecesOf (o := 16) (by decide) sh (W := fun j => chunkSlots A2 w j.val) (fun i => mem_tileSlots),
    show doneSet 16 = Finset.univ from Finset.filter_true_of_mem fun j _ => j.isLt]
  simp only [csh_val]
  exact .rfl

/-- Between two rounds: the arrays, the chunks in flight, and what is to come and is done. -/
def roundInv (ιwm : ℕ) (b0 b1 : Bufs) (m0 m1 m2 m3 m4 m5 : DmaSem sig) (q sh : PosShare TreeShare)
    (f : S33554432.Idx → Elt F .f32) (g : S33554432.Idx → Option (Elt F .f32))
    (A2 : S8192x128.Idx → BitVec 32) (A3 : S1048592.Idx → BitVec 32) (A4 : S1048592.Idx → Elt F .f32)
    (w : ℕ) (O : CellTallies nD τ sig (HIx 1)) (W : Waits sig (HIx 1)) (t : ℕ) (_ : Unit) : sProp (MM F) :=
  iprop(wmInv (wemb (F := F)) ιwm ∗ Transfers.MayWaits (V d cc ss) (none : HIx 1) O
    ∗ srcs d cc ss q A2 A3 A4 ∗ sems3 (F := F) d cc ss m0 m1 m2 ∗ sems3 (F := F) d cc ss m3 m4 m5
    ∗ inFlight d cc ss b0 (csh sh (2 * t)) f g (chunkSlots A2 w (2 * t))
    ∗ inFlight d cc ss b1 (csh sh (2 * t + 1)) f g (chunkSlots A2 w (2 * t + 1))
    ∗ todoPart d cc ss sh f g (2 * t + 2) ∗ donePart d cc ss sh f g A2 w (2 * t)
    ∗ owesMore d cc ss O W)

/-- A tile's run marks exactly the slots that its part of the lists names. -/
theorem wp_tile {f : S33554432.Idx → Elt F .f32} {g : S33554432.Idx → Option (Elt F .f32)}
    {A2 : S8192x128.Idx → BitVec 32} {A3 : S1048592.Idx → BitVec 32} {A4 : S1048592.Idx → Elt F .f32} {ιwm : ℕ} (hA : Words g A2 A3 A4)
    (L : grid0.Coords) (q sh : PosShare TreeShare) (O : CellTallies nD τ sig (HIx 1)) (W : Waits sig (HIx 1))
    (h2 : a2V.IsWhole) (h3 : a3V.IsWhole) (h4 : a4V.IsWhole) (h5 h6 : outV.IsWhole)
    (arg7 : Memref sig .scVector .vmem S16x128 .i32) (harg7 : arg7.IsWhole) (arg8 : Memref sig .scVector .vmem S16x128 .i32) (harg8 : arg8.IsWhole)
    (arg9 : Memref sig .scVector .vmem S2064 .i32) (harg9 : arg9.IsWhole) (arg10 : Memref sig .scVector .vmem S2064 .i32) (harg10 : arg10.IsWhole)
    (arg11 : Memref sig .scVector .vmem S2064 .f32) (harg11 : arg11.IsWhole) (arg12 : Memref sig .scVector .vmem S2064 .f32) (harg12 : arg12.IsWhole)
    (arg13 arg14 r0 r1 r2 r3 r4 r5 r6 r7 r8 r9 r10 r11 : DmaSems sig S_) :
    iprop(wmInv (wemb (F := F)) ιwm ∗ Transfers.MayWaits (V d ((L 0).castLE hcore0) ((L 1).castLE hsub0)) (none : HIx 1) O
        ∗ srcs d ((L 0).castLE hcore0) ((L 1).castLE hsub0) q A2 A3 A4
        ∗ freeBufs d ((L 0).castLE hcore0) ((L 1).castLE hsub0) ⟨arg7, harg7, arg9, harg9, arg11, harg11, arg13.sem⟩
        ∗ freeBufs d ((L 0).castLE hcore0) ((L 1).castLE hsub0) ⟨arg8, harg8, arg10, harg10, arg12, harg12, arg14.sem⟩
        ∗ sems3 (F := F) d ((L 0).castLE hcore0) ((L 1).castLE hsub0) r0.sem r1.sem r2.sem
        ∗ sems3 (F := F) d ((L 0).castLE hcore0) ((L 1).castLE hsub0) r3.sem r4.sem r5.sem
        ∗ sems3 (F := F) d ((L 0).castLE hcore0) ((L 1).castLE hsub0) r6.sem r7.sem r8.sem
        ∗ sems3 (F := F) d ((L 0).castLE hcore0) ((L 1).castLE hsub0) r9.sem r10.sem r11.sem
        ∗ wb (oL d ((L 0).castLE hcore0) ((L 1).castLE hsub0)) Finset.univ sh f g ∅
        ∗ owesMore d ((L 0).castLE hcore0) ((L 1).castLE hsub0) O W)
      ⊢ twp d ((L 0).castLE hcore0) ((L 1).castLE hsub0)
        (tile L a2V h2 a3V h3 a4V h4 outV h5 outV h6 arg7 harg7 arg8 harg8 arg9 harg9 arg10 harg10 arg11 harg11 arg12 harg12
          arg13 arg14 r0 r1 r2 r3 r4 r5 r6 r7 r8 r9 r10 r11) fun _ =>
        iprop(srcs d ((L 0).castLE hcore0) ((L 1).castLE hsub0) q A2 A3 A4
        ∗ freeBufs d ((L 0).castLE hcore0) ((L 1).castLE hsub0) ⟨arg7, harg7, arg9, harg9, arg11, harg11, arg13.sem⟩
        ∗ freeBufs d ((L 0).castLE hcore0) ((L 1).castLE hsub0) ⟨arg8, harg8, arg10, harg10, arg12, harg12, arg14.sem⟩
        ∗ sems3 (F := F) d ((L 0).castLE hcore0) ((L 1).castLE hsub0) r0.sem r1.sem r2.sem
        ∗ sems3 (F := F) d ((L 0).castLE hcore0) ((L 1).castLE hsub0) r3.sem r4.sem r5.sem
        ∗ sems3 (F := F) d ((L 0).castLE hcore0) ((L 1).castLE hsub0) r6.sem r7.sem r8.sem
        ∗ sems3 (F := F) d ((L 0).castLE hcore0) ((L 1).castLE hsub0) r9.sem r10.sem r11.sem
        ∗ wb (oL d ((L 0).castLE hcore0) ((L 1).castLE hsub0)) Finset.univ sh f g (tileSlots A2 (tn L))
        ∗ owesMore d ((L 0).castLE hcore0) ((L 1).castLE hsub0) O W) := by
  generalize hb0 : (⟨arg7, harg7, arg9, harg9, arg11, harg11, arg13.sem⟩ : Bufs) = b0
  generalize hb1 : (⟨arg8, harg8, arg10, harg10, arg12, harg12, arg14.sem⟩ : Bufs) = b1
  unfold tile
  rw [hb0, hb1]
  dsimp only
  have hw := tn_lt L
  iintro ⟨#Hwm, #Hmw, Hs, Hb0, Hb1, HA, HB, HC, HD, Hw, Ho⟩
  ihave Hw := (todo_all d ((L 0).castLE hcore0) ((L 1).castLE hsub0) sh f g) $$ Hw
  ihave Hw := (todo_step d ((L 0).castLE hcore0) ((L 1).castLE hsub0) sh f g 0 (by decide)) $$ Hw
  icases Hw with ⟨Hw0, Hw⟩
  ihave Hw := (todo_step d ((L 0).castLE hcore0) ((L 1).castLE hsub0) sh f g 1 (by decide)) $$ Hw
  icases Hw with ⟨Hw1, Hw⟩
  iapply (twp_seq (wp_stageChunk (f := f) (g := g) (q := q) (sh := csh sh 0) (ιwm := ιwm) b0 hA hw (k := 0) (by decide) (off1_eq L 0 (by decide)) (off2_eq L 0 (by decide)) O W)) $$ [Hs Hb0 Hw0 HA Ho]
  · isplitr; · iexact Hwm
    isplitr; · iexact Hmw
    isplitl [Hs]; · iexact Hs
    isplitl [Hb0]; · iexact Hb0
    isplitl [Hw0]; · iexact Hw0
    isplitl [HA]; · iexact HA
    iexact Ho
  iintro %_ ⟨Hs, Hf0, HA, Ho⟩
  iapply (twp_seq (wp_stageChunk (f := f) (g := g) (q := q) (sh := csh sh 1) (ιwm := ιwm) b1 hA hw (k := 1) (by decide) (off1_eq L 1 (by decide)) (off2_eq L 1 (by decide)) O W)) $$ [Hs Hb1 Hw1 HB Ho]
  · isplitr; · iexact Hwm
    isplitr; · iexact Hmw
    isplitl [Hs]; · iexact Hs
    isplitl [Hb1]; · iexact Hb1
    isplitl [Hw1]; · iexact Hw1
    isplitl [HB]; · iexact HB
    iexact Ho
  iintro %_ ⟨Hs, Hf1, HB, Ho⟩
  unfold twp
  iapply (Scf.wp_for_bind frame _ Set.univ _ _ _ k0_t5_ok () _
    (roundInv d ((L 0).castLE hcore0) ((L 1).castLE hsub0) ιwm b0 b1 r6.sem r7.sem r8.sem r9.sem r10.sem r11.sem q sh f g A2 A3 A4 (tn L) O W) ?hbody) $$ [Hs HC HD Hf0 Hf1 Hw Ho]
  case hbody =>
    intro t acc
    have ht : t.val < 7 := trips5 ▸ t.isLt
    unfold roundInv
    iintro ⟨#Hwm, #Hmw, Hs, HC, HD, Hf0, Hf1, Hw, Hdn, Ho⟩
    ihave Hw := (todo_step d ((L 0).castLE hcore0) ((L 1).castLE hsub0) sh f g (2 * t.val + 2) (by omega)) $$ Hw
    icases Hw with ⟨Hw0, Hw⟩
    ihave Hw := (todo_step d ((L 0).castLE hcore0) ((L 1).castLE hsub0) sh f g (2 * t.val + 3) (by omega)) $$ Hw
    icases Hw with ⟨Hw1, Hw⟩
    iapply (twp_seq (wp_drain (b := b0) (sh := csh sh (2 * t.val)) (f := f) (g := g) (Wm := chunkSlots A2 (tn L) (2 * t.val)) O W)) $$ [Hf0 Ho]
    · isplitl [Hf0]; · iexact Hf0
      isplitr; · iexact Hmw
      iexact Ho
    iintro %_ ⟨Hb0, Hd0, Ho⟩
    ihave Hdn := (done_step d ((L 0).castLE hcore0) ((L 1).castLE hsub0) sh f g A2 (tn L) (2 * t.val) (by omega)) $$ [Hd0 Hdn]
    · isplitl [Hd0] <;> iassumption
    have e7 := off7_eq L t 0 (by decide)
    have e8 := off8_eq L t 0 (by decide)
    have hk : 2 * t.val + 2 < 16 := by omega
    iapply (twp_seq (wp_stageChunk (f := f) (g := g) (q := q) (sh := csh sh (2 * t.val + 2)) (ιwm := ιwm) b0 hA hw (k := 2 * t.val + 2) hk e7 e8 O W)) $$ [Hs Hb0 Hw0 HC Ho]
    · isplitr; · iexact Hwm
      isplitr; · iexact Hmw
      isplitl [Hs]; · iexact Hs
      isplitl [Hb0]; · iexact Hb0
      isplitl [Hw0]; · iexact Hw0
      isplitl [HC]; · iexact HC
      iexact Ho
    iintro %_ ⟨Hs, Hf0, HC, Ho⟩
    iapply (twp_seq (wp_drain (b := b1) (sh := csh sh (2 * t.val + 1)) (f := f) (g := g) (Wm := chunkSlots A2 (tn L) (2 * t.val + 1)) O W)) $$ [Hf1 Ho]
    · isplitl [Hf1]; · iexact Hf1
      isplitr; · iexact Hmw
      iexact Ho
    iintro %_ ⟨Hb1, Hd1, Ho⟩
    ihave Hdn := (done_step d ((L 0).castLE hcore0) ((L 1).castLE hsub0) sh f g A2 (tn L) (2 * t.val + 1) (by omega)) $$ [Hd1 Hdn]
    · isplitl [Hd1] <;> iassumption
    have e7' := off7_eq L t 1 (by decide)
    have e8' := off8_eq L t 1 (by decide)
    have hk' : 2 * t.val + 2 + 1 < 16 := by omega
    iapply (twp_seq (wp_stageChunk (f := f) (g := g) (q := q) (sh := csh sh (2 * t.val + 2 + 1)) (ιwm := ιwm) b1 hA hw (k := 2 * t.val + 2 + 1) hk' e7' e8' O W)) $$ [Hs Hb1 Hw1 HD Ho]
    · isplitr; · iexact Hwm
      isplitr; · iexact Hmw
      isplitl [Hs]; · iexact Hs
      isplitl [Hb1]; · iexact Hb1
      isplitl [Hw1]; · iexact Hw1
      isplitl [HD]; · iexact HD
      iexact Ho
    iintro %_ ⟨Hs, Hf1, HD, Ho⟩
    unfold twp
    sl_step
    rw [show 2 * (t.val + 1) = 2 * t.val + 2 from by omega]
    isplitr; · iexact Hwm
    isplitr; · iexact Hmw
    isplitl [Hs]; · iexact Hs
    isplitl [HC]; · iexact HC
    isplitl [HD]; · iexact HD
    isplitl [Hf0]; · iexact Hf0
    isplitl [Hf1]; · iexact Hf1
    isplitl [Hw]; · iexact Hw
    isplitl [Hdn]; · iexact Hdn
    iexact Ho
  · unfold roundInv
    isplitr; · iexact Hwm
    isplitr; · iexact Hmw
    isplitl [Hs]; · iexact Hs
    isplitl [HC]; · iexact HC
    isplitl [HD]; · iexact HD
    isplitl [Hf0]; · iexact Hf0
    isplitl [Hf1]; · iexact Hf1
    isplitl [Hw]; · iexact Hw
    isplitr
    · unfold donePart
      rw [show doneSet (2 * 0) = ∅ from rfl, bigSep_empty]
      iempintro
    iexact Ho
  iintro %_ HI
  rw [show Scf.trips _ _ _ = 7 from trips5]
  unfold roundInv
  icases HI with ⟨-, -, Hs, HC, HD, Hf0, Hf1, -, Hdn, Ho⟩
  iapply (twp_seq (wp_drain (b := b0) (sh := csh sh 14) (f := f) (g := g) (Wm := chunkSlots A2 (tn L) 14) O W)) $$ [Hf0 Ho]
  · isplitl [Hf0]; · iexact Hf0
    isplitr; · iexact Hmw
    iexact Ho
  iintro %_ ⟨Hb0, Hd0, Ho⟩
  ihave Hdn := (done_step d ((L 0).castLE hcore0) ((L 1).castLE hsub0) sh f g A2 (tn L) 14 (by omega)) $$ [Hd0 Hdn]
  · isplitl [Hd0] <;> iassumption
  rw [show (drain outV b1.vv b1.sem : Tile F ((L 0).castLE hcore0) ((L 1).castLE hsub0) PUnit) = drain outV b1.vv b1.sem >>= pure from (bind_pure _).symm]
  iapply (twp_seq (wp_drain (b := b1) (sh := csh sh 15) (f := f) (g := g) (Wm := chunkSlots A2 (tn L) 15) O W)) $$ [Hf1 Ho]
  · isplitl [Hf1]; · iexact Hf1
    isplitr; · iexact Hmw
    iexact Ho
  iintro %_ ⟨Hb1, Hd1, Ho⟩
  ihave Hdn := (done_step d ((L 0).castLE hcore0) ((L 1).castLE hsub0) sh f g A2 (tn L) 15 (by omega)) $$ [Hd1 Hdn]
  · isplitl [Hd1] <;> iassumption
  ihave Hdn := (done_all d ((L 0).castLE hcore0) ((L 1).castLE hsub0) sh f g A2 (tn L)) $$ Hdn
  unfold twp
  sl_step
  isplitl [Hs]; · iexact Hs
  isplitl [Hb0]; · iexact Hb0
  isplitl [Hb1]; · iexact Hb1
  isplitl [HA]; · iexact HA
  isplitl [HB]; · iexact HB
  isplitl [HC]; · iexact HC
  isplitl [HD]; · iexact HD
  isplitl [Hdn]; · iexact Hdn
  iexact Ho

end Cert.Proof.Scatter

end
-- ==== Proof.Launch.lean ====
/-
  The launch, its first half: what the SparseCore call's handshakes carry (read shares of the three arrays and shares of
  the result array's write mode), each tile's obligation from its run, and how a core's shares split among its tiles.
-/
module

public import proofs.«01_k».proof.Proof.TileLoop

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What a call is given -/

/-- The arrays of one device at the call: the lists, the flat words, the values, what the result array holds before, and
    the value each slot is to get where there is one. -/
structure Arrays (F : FTy → Type) where
  A2 : S8192x128.Idx → BitVec 32
  A3 : S1048592.Idx → BitVec 32
  A4 : S1048592.Idx → Elt F .f32
  f : S33554432.Idx → Elt F .f32
  g : S33554432.Idx → Option (Elt F .f32)

/-- What a run asks of them. -/
def Arrays.OK (a : Arrays F) : Prop := Words a.g a.A2 a.A3 a.A4

open Classical in
/-- The slots that core `c`'s tiles name, and all that are named. -/
def coreSlots (A2 : S8192x128.Idx → BitVec 32) (c : ℕ) : Finset S33554432.Idx :=
  Finset.univ.filter fun i => ∃ s : Fin 16, i ∈ tileSlots A2 (s.val * 2 + c)

open Classical in
def allSlots (A2 : S8192x128.Idx → BitVec 32) : Finset S33554432.Idx :=
  Finset.univ.filter fun i => ∃ c : Fin 2, i ∈ coreSlots A2 c.val

theorem mem_coreSlots {A2 : S8192x128.Idx → BitVec 32} {c : ℕ} {i : S33554432.Idx} :
    i ∈ coreSlots A2 c ↔ ∃ s : Fin 16, i ∈ tileSlots A2 (s.val * 2 + c) := by
  unfold coreSlots; simp only [Finset.mem_filter, Finset.mem_univ, _root_.true_and]

theorem mem_allSlots {A2 : S8192x128.Idx → BitVec 32} {i : S33554432.Idx} :
    i ∈ allSlots A2 ↔ ∃ c : Fin 2, i ∈ coreSlots A2 c.val := by
  unfold allSlots; simp only [Finset.mem_filter, Finset.mem_univ, _root_.true_and]

/-- A core's share, and a tile's. -/
def coreSh (c : Fin 2) : PosShare TreeShare := pieceOf fullShare 2 (by decide) c
def tileSh (c : Fin 2) (s : Fin 16) : PosShare TreeShare := pieceOf (coreSh c) 16 (by decide) s

abbrev l2 (d : Dev nD) : Loc nD τ sig := (SparseCore.T d).loc main_v1
abbrev l3 (d : Dev nD) : Loc nD τ sig := (SparseCore.T d).loc main_v3
abbrev l4 (d : Dev nD) : Loc nD τ sig := (SparseCore.T d).loc main_v5
abbrev lo (d : Dev nD) : Loc nD τ sig := (SparseCore.T d).loc main_v6

variable [FloatOps F]

/-- A share of the arrays, and of the result array's write mode with the slots `W` marked. -/
def carry (d : Dev nD) (a : Arrays F) (q : PosShare TreeShare) (W : Finset S33554432.Idx) : sProp (MM F) :=
  iprop((l2 d ↦{q} a.A2) ∗ (l3 d ↦{q} a.A3) ∗ (l4 d ↦{q} a.A4) ∗ wb (lo d) Finset.univ q a.f a.g W)

instance (d : Dev nD) (a : Arrays F) (q : PosShare TreeShare) (W : Finset S33554432.Idx) :
    BI.Storable (upEmb : UEmb _ (MM F)) (carry d a q W) := by unfold carry; infer_instance

/-- What the call and its tasks are handed, and hand back. -/
def P (a : Dev nD → Arrays F) : (K (F := F)).Pay (nD := nD) (Val := Elt F) (Name := ℕ) (U := UU F) where
  st := fun q d c => match q with | 0 => carry d (a d) (coreSh (Fin.cast nCore_zero c)) ∅
  dn := fun q d c => match q with | 0 => carry d (a d) (coreSh (Fin.cast nCore_zero c)) (coreSlots (a d).A2 c.val)
  go := fun q d c i => match q with | 0 => carry d (a d) (tileSh (Fin.cast nCore_zero c) (Fin.cast nSub_zero i)) ∅
  td := fun q d c i => match q with
    | 0 => carry d (a d) (tileSh (Fin.cast nCore_zero c) (Fin.cast nSub_zero i)) (tileSlots (a d).A2 (i.val * 2 + c.val))
  x := fun _ _ => iprop(∃ ι, wmInv (wemb (F := F)) ι)

instance P_storable (a : Dev nD → Arrays F) : (P (F := F) a).IsStorable where
  st q d c := match q with
    | 0 => (inferInstance : BI.Storable (upEmb : UEmb _ (MM F)) (carry d (a d) (coreSh (Fin.cast nCore_zero c)) ∅))
  dn q d c := match q with
    | 0 => (inferInstance : BI.Storable (upEmb : UEmb _ (MM F)) (carry d (a d) (coreSh (Fin.cast nCore_zero c)) (coreSlots (a d).A2 c.val)))
  go q d c i := match q with
    | 0 => (inferInstance : BI.Storable (upEmb : UEmb _ (MM F)) (carry d (a d) (tileSh (Fin.cast nCore_zero c) (Fin.cast nSub_zero i)) ∅))
  td q d c i := match q with
    | 0 => (inferInstance : BI.Storable (upEmb : UEmb _ (MM F)) (carry d (a d) (tileSh (Fin.cast nCore_zero c) (Fin.cast nSub_zero i)) (tileSlots (a d).A2 (i.val * 2 + c.val))))

/-- Shares of everything at once. -/
theorem carry_pieces (d : Dev nD) (a : Arrays F) {o : ℕ} (ho : 0 < o) (q : PosShare TreeShare) {W : Fin o → Finset S33554432.Idx} {V : Finset S33554432.Idx}
    (hV : ∀ i, i ∈ V ↔ ∃ k, i ∈ W k) :
    carry d a q V = bigSep Finset.univ fun k : Fin o => carry d a (pieceOf q o ho k) (W k) := by
  unfold carry wb
  rw [bigSep_sep', bigSep_sep', bigSep_sep', ← pointsTo_piecesOf, ← pointsTo_piecesOf, ← pointsTo_piecesOf, ← willBe_piecesOf ho q hV]

/-! ## A tile's obligation -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl

/-- The members that a one-to-one family names, and the rest. -/
theorem bigSep_named {M : Type} [URA M] {I : Type} [DecidableEq I] {n : ℕ} (f : Fin n → I) (hf : Function.Injective f) (s : Finset I) (hs : ∀ j, f j ∈ s) (Φ : I → sProp M) :
    bigSep s Φ = iprop((bigSep Finset.univ fun j => Φ (f j)) ∗ bigSep (s \ Finset.univ.image f) Φ) := by
  rw [← bigSep_image_of_injOn (Set.injOn_of_injective hf)]
  exact bigSep_sdiff_split (fun x hx => by obtain ⟨j, -, rfl⟩ := Finset.mem_image.mp hx; exact hs j)

/-- The copy semaphores of a tile, by number. -/
def dcell (d : Dev nD) (c : Fin τ.nSC) (s : Fin τ.nSub) (k : Fin 14) : GSem nD τ sig := (V d c s, .dma k)

theorem dcell_inj (c : Fin τ.nSC) (s : Fin τ.nSub) : Function.Injective (dcell d c s) := fun a b h => by
  unfold dcell at h
  injection h with _ h
  injection h

theorem fin14 : (Finset.univ : Finset (Fin 14)) = {0, 1, 2, 3, 4, 5, 6, 7, 8, 9, 10, 11, 12, 13} := by decide

theorem ownSems0_V :
    (ownSems0 (V d (cV L) (jV L)) : sProp (MM F))
      = iprop((semVal (dcell d (cV L) (jV L) 0) 0 ∗ semVal (dcell d (cV L) (jV L) 1) 0 ∗ semVal (dcell d (cV L) (jV L) 2) 0
          ∗ semVal (dcell d (cV L) (jV L) 3) 0 ∗ semVal (dcell d (cV L) (jV L) 4) 0 ∗ semVal (dcell d (cV L) (jV L) 5) 0
          ∗ semVal (dcell d (cV L) (jV L) 6) 0 ∗ semVal (dcell d (cV L) (jV L) 7) 0 ∗ semVal (dcell d (cV L) (jV L) 8) 0
          ∗ semVal (dcell d (cV L) (jV L) 9) 0 ∗ semVal (dcell d (cV L) (jV L) 10) 0 ∗ semVal (dcell d (cV L) (jV L) 11) 0
          ∗ semVal (dcell d (cV L) (jV L) 12) 0 ∗ semVal (dcell d (cV L) (jV L) 13) 0)
          ∗ bigSep (ownCells (V d (cV L) (jV L)) \ Finset.univ.image (dcell d (cV L) (jV L))) fun g => semVal g 0) := by
  unfold SparseCore.Cfg.ownSems0
  rw [bigSep_named (dcell d (cV L) (jV L)) (dcell_inj d _ _) _
    (fun k => mem_ownCells.mpr ⟨rfl, by
      show (SemLoc.dma k : SemLoc sig).isScoped .scVector = true
      revert k; decide⟩), fin14]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The scratch buffers of a tile, by number. -/
def sref (k : Fin 6) : Ref sig .scVector := ⟨.vmem, k, rfl⟩
def sdev (c : Fin τ.nSC) (s : Fin τ.nSub) (k : Fin 6) : DevRef τ sig := (Proc.scVector c s).devRef (sref k)

theorem sdev_inj (c : Fin τ.nSC) (s : Fin τ.nSub) : Function.Injective (sdev c s) := fun a b h => by
  have h' : sref a = sref b := Proc.devRef_injective _ h
  revert h'; clear h; revert a b; decide

theorem fin6 : (Finset.univ : Finset (Fin 6)) = {0, 1, 2, 3, 4, 5} := by decide

theorem ownBufs_V :
    (ownBufs (V d (cV L) (jV L)) : sProp (MM F))
      = iprop(((∃ f, ((d, sdev (cV L) (jV L) 0) : Loc nD τ sig) ↦{fullShare} f) ∗ (∃ f, ((d, sdev (cV L) (jV L) 1) : Loc nD τ sig) ↦{fullShare} f)
          ∗ (∃ f, ((d, sdev (cV L) (jV L) 2) : Loc nD τ sig) ↦{fullShare} f) ∗ (∃ f, ((d, sdev (cV L) (jV L) 3) : Loc nD τ sig) ↦{fullShare} f)
          ∗ (∃ f, ((d, sdev (cV L) (jV L) 4) : Loc nD τ sig) ↦{fullShare} f) ∗ (∃ f, ((d, sdev (cV L) (jV L) 5) : Loc nD τ sig) ↦{fullShare} f))
          ∗ bigSep (ownRefs (τ := τ) (.scVector (cV L) (jV L)) \ Finset.univ.image (sdev (cV L) (jV L)))
              fun b => iprop(∃ f, ((d, b) : Loc nD τ sig) ↦{fullShare} f)) := by
  unfold SparseCore.Cfg.ownBufs
  rw [bigSep_named (sdev (cV L) (jV L)) (sdev_inj _ _) _
    (fun k => SparseCore.Cfg.mem_ownRefs_of_owner (p := Proc.scVector (cV L) (jV L)) (b := (Proc.scVector (cV L) (jV L)).devRef (sref k)) rfl), fin6]
  rw [SparseCore.bigSep_insert' (by decide), SparseCore.bigSep_insert' (by decide), SparseCore.bigSep_insert' (by decide), SparseCore.bigSep_insert' (by decide),
    SparseCore.bigSep_insert' (by decide), bigSep_singleton]

end Tile

end Cert.Proof.Scatter

end
-- ==== Proof.Oblig.lean ====
/-
  The launch, its second half: each tile's obligation from its run, how a core's shares split among its tiles and join
  again, and the launch element.
-/
module

public import proofs.«01_k».proof.Proof.Launch

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (a : Dev nD → Arrays F)

def coordsV (c : Fin (grid0.bound 0)) (s : Fin (grid0.bound 1)) : grid0.Coords :=
  fun | 0 => c | 1 => s | ⟨_ + 2, h⟩ => absurd h (Nat.not_lt.2 (Nat.le_add_left _ _))

/-- A tile's task, as the launch asks for it. -/
theorem tile_body (d : Dev nD) (L : grid0.Coords) (hF : (K (F := F)).Facts) (ha : (a d).OK) (O : CellTallies nD τ sig (HIx 1)) (W : Waits sig (HIx 1))
    (hO : ∀ g, O g none = 0) :
    iprop(levAts (K (F := F)).L (K (F := F)).lev ∗ (∃ ι, wmInv (wemb (F := F)) ι)
        ∗ carry d (a d) (tileSh (Fin.cast bound_zero (L 0)) (Fin.cast bound_one (L 1))) ∅
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_scatter L (Memref.whole main_v1_scv) (Memref.isWhole_whole _) (Memref.whole main_v3_scv) (Memref.isWhole_whole _) (Memref.whole main_v5_scv) (Memref.isWhole_whole _) (Memref.whole main_v6_scv) (Memref.isWhole_whole _) (Memref.whole main_v6_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 cc0_scoped2 cc0_scoped3 cc0_scoped4 cc0_scoped5 cc0_scoped6 cc0_scoped7 cc0_scoped8 cc0_scoped9 cc0_scoped10 cc0_scoped11)
          fun _ => iprop(carry d (a d) (tileSh (Fin.cast bound_zero (L 0)) (Fin.cast bound_one (L 1))) (tileSlots (a d).A2 (tn L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_scatter_eq, (K (F := F)).scopedBufs_V hF d (cV L) (jV L), SparseCore.Cfg.scopedSems0_V (Val := Elt F) d (cV L) (jV L), ownSems0_V, ownBufs_V]
  iintro ⟨#Hlv, ⟨%ι, #Hwm⟩, Hc, ⟨⟨B0, B1, B2, B3, B4, B5⟩, Hbufs⟩, ⟨⟨M0, M1, M2, M3, M4, M5, M6, M7, M8, M9, M10, M11, M12, M13⟩, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  unfold carry
  icases Hc with ⟨H2, H3, H4, Hw⟩
  have ht := wp_tile d (f := (a d).f) (g := (a d).g) (ιwm := ι) ha L (tileSh (Fin.cast bound_zero (L 0)) (Fin.cast bound_one (L 1)))
    (tileSh (Fin.cast bound_zero (L 0)) (Fin.cast bound_one (L 1))) O W (Memref.isWhole_whole _) (Memref.isWhole_whole _) (Memref.isWhole_whole _)
    (Memref.isWhole_whole _) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 cc0_scoped2 cc0_scoped3 cc0_scoped4 cc0_scoped5 cc0_scoped6 cc0_scoped7 cc0_scoped8 cc0_scoped9 cc0_scoped10 cc0_scoped11
  iapply (wp_wand_r frame)
  isplitl [H2 H3 H4 Hw B0 B1 B2 B3 B4 B5 M0 M1 M2 M3 M4 M5 M6 M7 M8 M9 M10 M11 M12 M13 Hmw HO]
  · iapply ht
    unfold srcs freeBufs sems3 owesMore
    isplitr; · iexact Hwm
    isplitl [Hmw]; · iexact Hmw
    isplitl [H2 H3 H4]
    · isplitl [H2]; · iexact H2
      isplitl [H3]; · iexact H3
      iexact H4
    isplitl [B0 B2 B4 M0]
    · isplitl [B0]; · iexact B0
      isplitl [B2]; · iexact B2
      isplitl [B4]; · iexact B4
      iexact M0
    isplitl [B1 B3 B5 M1]
    · isplitl [B1]; · iexact B1
      isplitl [B3]; · iexact B3
      isplitl [B5]; · iexact B5
      iexact M1
    isplitl [M2 M3 M4]
    · isplitl [M2]; · iexact M2
      isplitl [M3]; · iexact M3
      iexact M4
    isplitl [M5 M6 M7]
    · isplitl [M5]; · iexact M5
      isplitl [M6]; · iexact M6
      iexact M7
    isplitl [M8 M9 M10]
    · isplitl [M8]; · iexact M8
      isplitl [M9]; · iexact M9
      iexact M10
    isplitl [M11 M12 M13]
    · isplitl [M11]; · iexact M11
      isplitl [M12]; · iexact M12
      iexact M13
    isplitl [Hw]; · iexact Hw
    iexists W
    isplitr; · ipureintro; exact fun p hp => .inl hp
    iexact HO
  unfold srcs freeBufs sems3 owesMore
  iintro %_ ⟨⟨H2, H3, H4⟩, ⟨B0, B2, B4, M0⟩, ⟨B1, B3, B5, M1⟩, ⟨M2, M3, M4⟩, ⟨M5, M6, M7⟩, ⟨M8, M9, M10⟩, ⟨M11, M12, M13⟩, Hw, HO⟩
  isplitl [H2 H3 H4 Hw]
  · isplitl [H2]; · iexact H2
    isplitl [H3]; · iexact H3
    isplitl [H4]; · iexact H4
    iexact Hw
  isplitl [B0 B1 B2 B3 B4 B5 Hbufs]
  · isplitr [Hbufs]
    · isplitl [B0]; · iexact B0
      isplitl [B1]; · iexact B1
      isplitl [B2]; · iexact B2
      isplitl [B3]; · iexact B3
      isplitl [B4]; · iexact B4
      iexact B5
    · iexact Hbufs
  isplitl [M0 M1 M2 M3 M4 M5 M6 M7 M8 M9 M10 M11 M12 M13 Hsems]
  · isplitr [Hsems]
    · isplitl [M0]; · iexact M0
      isplitl [M1]; · iexact M1
      isplitl [M2]; · iexact M2
      isplitl [M3]; · iexact M3
      isplitl [M4]; · iexact M4
      isplitl [M5]; · iexact M5
      isplitl [M6]; · iexact M6
      isplitl [M7]; · iexact M7
      isplitl [M8]; · iexact M8
      isplitl [M9]; · iexact M9
      isplitl [M10]; · iexact M10
      isplitl [M11]; · iexact M11
      isplitl [M12]; · iexact M12
      iexact M13
    · iexact Hsems
  iexact HO

/-! ## The obligation -/

theorem defs₀_vector (c : Fin τ.nSC) (s : Fin τ.nSub) :
    defs₀ (F := F) (.scVector c s) 0 ()
      = SparseCore.onTile hcore0 hsub0 (fun c s => cc0_scatter (coordsV c s)
          (Memref.whole main_v1_scv) (Memref.isWhole_whole _) (Memref.whole main_v3_scv) (Memref.isWhole_whole _) (Memref.whole main_v5_scv) (Memref.isWhole_whole _) (Memref.whole main_v6_scv) (Memref.isWhole_whole _) (Memref.whole main_v6_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 cc0_scoped2 cc0_scoped3 cc0_scoped4 cc0_scoped5 cc0_scoped6 cc0_scoped7 cc0_scoped8 cc0_scoped9 cc0_scoped10 cc0_scoped11) ⟨⟩ c s := rfl

/-- A task that records its own waits alone has recorded what the launch allows. -/
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (ha : ∀ d, (a d).OK) : (K (F := F)).TileObl (D (F := F)) 𝒱 (P a) v₀ 0 := by
  intro d c i O W hO _ _
  simp only [show (P a).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body a d (coordsV ⟨_, hci.1⟩ ⟨_, hci.2⟩) hF (ha d) O W hO).trans (wp_mono frame _ _ fun _ => obl_post)

/-! ## The split among the tiles -/

theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P a) 0 := by
  intro d c
  show carry d (a d) (coreSh (Fin.cast nCore_zero c)) ∅ ⊢ |={Set.univ}=> iprop(
      (bigSep Finset.univ fun i : Fin ((K (F := F)).nSub 0) => carry d (a d) (tileSh (Fin.cast nCore_zero c) (Fin.cast nSub_zero i)) ∅)
      ∗ ((bigSep Finset.univ fun i : Fin ((K (F := F)).nSub 0) =>
          carry d (a d) (tileSh (Fin.cast nCore_zero c) (Fin.cast nSub_zero i)) (tileSlots (a d).A2 ((Fin.cast nSub_zero i).val * 2 + c.val)))
          -∗ carry d (a d) (coreSh (Fin.cast nCore_zero c)) (coreSlots (a d).A2 c.val)))
  rw [bigSep_tasks (F := F) (fun i => carry d (a d) (tileSh (Fin.cast nCore_zero c) i) ∅),
    bigSep_tasks (F := F) (fun i => carry d (a d) (tileSh (Fin.cast nCore_zero c) i) (tileSlots (a d).A2 (i.val * 2 + c.val)))]
  rw [carry_pieces d (a d) (o := 16) (by decide) (coreSh (Fin.cast nCore_zero c)) (V := ∅) (W := fun _ => ∅) (by simp),
    carry_pieces d (a d) (o := 16) (by decide) (coreSh (Fin.cast nCore_zero c)) (V := coreSlots (a d).A2 c.val)
      (W := fun i => tileSlots (a d).A2 (i.val * 2 + c.val)) (fun i => mem_coreSlots)]
  iintro H; imodintro
  isplitl [H]; · iexact H
  iintro H
  iexact H

theorem st_all (d : Dev nD) :
    (bigSep Finset.univ fun c : Fin ((K (F := F)).nCore 0) => (P a).st 0 d c) = carry d (a d) fullShare ∅ := by
  show (bigSep Finset.univ fun c : Fin ((K (F := F)).nCore 0) => carry d (a d) (coreSh (Fin.cast nCore_zero c)) ∅) = _
  rw [bigSep_cores (F := F) (fun c => carry d (a d) (coreSh c) ∅)]
  exact (carry_pieces d (a d) (o := 2) (by decide) fullShare (V := ∅) (W := fun _ => ∅) (by simp)).symm

theorem dn_all (d : Dev nD) :
    (bigSep Finset.univ fun c : Fin ((K (F := F)).nCore 0) => (P a).dn 0 d c) = carry d (a d) fullShare (allSlots (a d).A2) := by
  show (bigSep Finset.univ fun c : Fin ((K (F := F)).nCore 0) => carry d (a d) (coreSh (Fin.cast nCore_zero c)) (coreSlots (a d).A2 (Fin.cast nCore_zero c).val)) = _
  rw [bigSep_cores (F := F) (fun c => carry d (a d) (coreSh c) (coreSlots (a d).A2 c.val))]
  exact (carry_pieces d (a d) (o := 2) (by decide) fullShare (V := allSlots (a d).A2) (W := fun c => coreSlots (a d).A2 c.val) (fun i => mem_allSlots)).symm

/-! ## The launch element -/

def u₀ : UU F := (initOf (K (F := F)).hsCells (K (F := F)).hsToks, (wm₀ nD τ sig (Elt F), 1))

end Cert.Proof.Scatter

end
-- ==== Proof.Host.lean ====
/-
  The lines of host operations before the SparseCore call: the list of them, what they leave in the buffers, and the
  arrays the call is given.
-/
module

public import proofs.«01_k».proof.Proof.Oblig

@[expose] public section

noncomputable section

namespace Cert.Proof.Scatter

open Cert.KernelIdeal Cert.KernelIdeal.Gen
open Idealize.ShloMosaic
open Idealize.ShloMosaic.StableHlo
open Idealize.SL.Sem

variable {F : FTy → Type} [FloatOps F]

/-- The host operations in their order: the sort of the pairs, its reshape, the padded words and values, the copy of the
    array into the result's buffer. -/
def ops : List (HloOp τ sig (Elt F)) :=
  [binary main_arg1 main_arg2 main_v0_0 ((fun x y => (Host.unstableSort2 S1048576 0 comparator_i32_f32_d0 x y).1) : (⟨S1048576, .i32⟩ : BufTy).Contents (Elt F) → (⟨S1048576, .f32⟩ : BufTy).Contents (Elt F) → (⟨S1048576, .i32⟩ : BufTy).Contents (Elt F)),
    binary main_arg1 main_arg2 main_v0_1 ((fun x y => (Host.unstableSort2 S1048576 0 comparator_i32_f32_d0 x y).2) : (⟨S1048576, .i32⟩ : BufTy).Contents (Elt F) → (⟨S1048576, .f32⟩ : BufTy).Contents (Elt F) → (⟨S1048576, .f32⟩ : BufTy).Contents (Elt F)),
    reshape main_v0_0 main_v1 (rfl : (.i32 : EltTy) = .i32) shapeCasts_S1048576_S8192x128,
    nullary main_c (constantI S_ 32 4294967295#32),
    unary main_c main_v2 (broadcastInDim S16 ![] bcast_S_S16 : (⟨S_, .i32⟩ : BufTy).Contents (Elt F) → (⟨S16, .i32⟩ : BufTy).Contents (Elt F)),
    binary main_v0_0 main_v2 main_v3 ((fun a b => concatenate S1048592 0 [⟨S1048576, a⟩, ⟨S16, b⟩] concatenates_S1048576_S16_S1048592_d0) : (⟨S1048576, .i32⟩ : BufTy).Contents (Elt F) → (⟨S16, .i32⟩ : BufTy).Contents (Elt F) → (⟨S1048592, .i32⟩ : BufTy).Contents (Elt F)),
    nullary main_cst (constant S_ .f32 0x00000000#32),
    unary main_cst main_v4 (broadcastInDim S16 ![] bcast_S_S16 : (⟨S_, .f32⟩ : BufTy).Contents (Elt F) → (⟨S16, .f32⟩ : BufTy).Contents (Elt F)),
    binary main_v0_1 main_v4 main_v5 ((fun a b => concatenate S1048592 0 [⟨S1048576, a⟩, ⟨S16, b⟩] concatenates_S1048576_S16_S1048592_d0) : (⟨S1048576, .f32⟩ : BufTy).Contents (Elt F) → (⟨S16, .f32⟩ : BufTy).Contents (Elt F) → (⟨S1048592, .f32⟩ : BufTy).Contents (Elt F)),
    unary main_arg0 main_v6 id]

theorem main_eq (d : Dev nD) : main (F := F) d = seq ops >>= fun _ => (sc (F := F)).run d 0 >>= fun _ => pure ⟨⟩ := rfl

theorem ops_sub : ∀ op ∈ ops (F := F), op.bufs ⊆ tcRefs τ sig := by
  unfold ops
  simp only [List.forall_mem_cons, List.forall_mem_nil, List.not_mem_nil, false_implies, implies_true, and_true,
    binary_bufs_sub, unary_bufs_sub, nullary_bufs_sub, reshape_bufs_sub, and_self]

theorem ops_fresh : ∀ op ∈ ops (F := F), op.fresh = ∅ := by
  unfold ops
  simp only [List.forall_mem_cons, List.not_mem_nil, false_implies, implies_true, and_true]
  exact ⟨rfl, rfl, rfl, rfl, rfl, rfl, rfl, rfl, rfl, rfl⟩

variable (m : (ℓ : Loc nD τ sig) → Buf (Elt F) ℓ) (d : Dev nD)

/-- The launch contents of device `d`'s arguments. -/
abbrev memArg : S33554432.Idx → Elt F .f32 := m ((SparseCore.T d).loc main_arg0)
abbrev idxArg : S1048576.Idx → BitVec 32 := m ((SparseCore.T d).loc main_arg1)
abbrev valArg : S1048576.Idx → Elt F .f32 := m ((SparseCore.T d).loc main_arg2)

/-- The sorted pairs' words, and their values. -/
def sortedIdx : S1048576.Idx → BitVec 32 := (Host.unstableSort2 S1048576 0 comparator_i32_f32_d0 (idxArg m d) (valArg m d)).1
def sortedVal : S1048576.Idx → Elt F .f32 := (Host.unstableSort2 S1048576 0 comparator_i32_f32_d0 (idxArg m d) (valArg m d)).2

/-- The lists, the padded words and the padded values. -/
def listsOf : S8192x128.Idx → BitVec 32 := shapeCast S8192x128 (sortedIdx m d) shapeCasts_S1048576_S8192x128
def wordsOf : S1048592.Idx → BitVec 32 :=
  concatenate S1048592 0 [⟨S1048576, sortedIdx m d⟩, ⟨S16, broadcastInDim S16 ![] bcast_S_S16 (constantI S_ 32 4294967295#32)⟩] concatenates_S1048576_S16_S1048592_d0
def valsOf : S1048592.Idx → Elt F .f32 :=
  concatenate S1048592 0 [⟨S1048576, sortedVal m d⟩, ⟨S16, broadcastInDim S16 ![] bcast_S_S16 (constant S_ .f32 0x00000000#32)⟩] concatenates_S1048576_S16_S1048592_d0

/-- What the buffers hold after the host operations. -/
abbrev held' : Valuation τ sig (Elt F) := after (ops (F := F)) (launchContents m d)

theorem held'_arg0 : held' m d (Proc.devRef .tc main_arg0) = memArg m d := by
  unfold held' ops; after_results
theorem held'_arg1 : held' m d (Proc.devRef .tc main_arg1) = idxArg m d := by
  unfold held' ops; after_results
theorem held'_arg2 : held' m d (Proc.devRef .tc main_arg2) = valArg m d := by
  unfold held' ops; after_results
theorem held'_v1 : held' m d (Proc.devRef .tc main_v1) = listsOf m d := by
  unfold held' ops; after_results; rfl
theorem held'_v3 : held' m d (Proc.devRef .tc main_v3) = wordsOf m d := by
  unfold held' ops; after_results; rfl
theorem held'_v5 : held' m d (Proc.devRef .tc main_v5) = valsOf m d := by
  unfold held' ops; after_results; rfl
theorem held'_v6 : held' m d (Proc.devRef .tc main_v6) = memArg m d := by
  unfold held' ops; after_results; rfl

end Cert.Proof.Scatter

end
-- ==== Proof.Main.lean ====
/-
  The run of the whole program: the launch element, @main on the TensorCore, what the final memory holds.
-/
module

public import proofs.«01_k».proof.Proof.Host
public import Idealize.ShloMosaic.Lib.Pipeline.Frame

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

/-! ## The launch element -/

/-- What @main is given of the ghost state: the write mode's invariant. -/
abbrev G (_ : Dev nD) : sProp (MM F) := iprop(∃ ι, wmInv (wemb (F := F)) ι)

include m ρ in
theorem hu₀ (a : Dev nD → Arrays F) : (ownU (u₀ (F := F)) : sProp (MM F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P a).x q thr) := by
  unfold u₀
  iintro Hu
  ihave H := (ownU_pair (initOf (K (F := F)).hsCells (K (F := F)).hsToks) ((wm₀ nD τ sig (Elt F), 1) : WmRA nD τ sig (Elt F) × Counters)) $$ Hu
  icases H with ⟨HH, Hw⟩
  imod ((show (BI.own (embR ((wm₀ nD τ sig (Elt F), 1) : WmRA nD τ sig (Elt F) × Counters)) : sProp (MM F)) ⊢ _ from
    wmInv_alloc (emb := wemb (F := F)) (⟨m, fun _ => 0, ρ⟩ : MemSt nD τ sig (Elt F)))) $$ Hw with ⟨%ι, -, #Hinv⟩
  imodintro
  isplitl [HH]; · iexact HH
  isplitr
  · iapply (bigSep_intro_persistent (R := wmInv (wemb (F := F)) ι) fun d _ => (by iintro #H; iexists ι; iexact H : wmInv (wemb (F := F)) ι ⊢ G d)) $$ Hinv
  · iapply (bigSep_intro_persistent (R := wmInv (wemb (F := F)) ι) fun thr _ => (bigSep_intro_persistent (R := wmInv (wemb (F := F)) ι) fun q _ =>
      (exists_intro ι : wmInv (wemb (F := F)) ι ⊢ iprop(∃ ι, wmInv (wemb (F := F)) ι)))) $$ Hinv

/-! ## @main on the TensorCore -/

/-- What the call is given on device `d`, with the targets `g`. -/
def arraysOf (g : Dev nD → S33554432.Idx → Option (Elt F .f32)) (d : Dev nD) : Arrays F :=
  ⟨listsOf m d, wordsOf m d, valsOf m d, memArg m d, g d⟩

/-- The final contents of the result's buffer: unnamed slots as before, a named slot at its target where it has one. -/
def Marked (a : Arrays F) (f' : S33554432.Idx → Elt F .f32) : Prop :=
  ∀ i, (i ∉ allSlots a.A2 → f' i = a.f i) ∧ (i ∈ allSlots a.A2 → ∀ u, a.g i = some u → f' i = u)

abbrev loc0 (d : Dev nD) : Loc nD τ sig := (SparseCore.T d).loc main_arg0
abbrev loc1 (d : Dev nD) : Loc nD τ sig := (SparseCore.T d).loc main_arg1
abbrev locV (d : Dev nD) : Loc nD τ sig := (SparseCore.T d).loc main_arg2

/-- What @main ends with on device `d`. -/
def FIN (a : Dev nD → Arrays F) (d : Dev nD) : sProp (MM F) :=
  iprop((loc0 d ↦{fullShare} memArg m d) ∗ (loc1 d ↦{fullShare} idxArg m d) ∗ (locV d ↦{fullShare} valArg m d)
    ∗ ∃ f' : S33554432.Idx → Elt F .f32, ⌜Marked (a d) f'⌝ ∗ lo d ↦{fullShare} f')

theorem unscopedBufs_eq (d : Dev nD) (W : (b : Ref sig .tc) → Buf (Elt F) ((d.tc : Thread nD τ).loc b)) :
    (unscopedBufs d W : sProp (MM F)) = iprop(
      (loc0 d ↦{fullShare} W main_arg0) ∗ (loc1 d ↦{fullShare} W main_arg1) ∗ (locV d ↦{fullShare} W main_arg2)
      ∗ (l2 d ↦{fullShare} W main_v1) ∗ (l3 d ↦{fullShare} W main_v3) ∗ (l4 d ↦{fullShare} W main_v5) ∗ (lo d ↦{fullShare} W main_v6)
      ∗ bigSep {main_v0_0, main_v0_1, main_c, main_v2, main_cst, main_v4} fun b => (d.tc : Thread nD τ).loc b ↦{fullShare} W b) := by
  unfold unscopedBufs
  rw [show (Finset.univ.filter fun b : Ref sig .tc => ¬ b.isScoped)
      = insert main_arg0 (insert main_arg1 (insert main_arg2 (insert main_v1 (insert main_v3 (insert main_v5 (insert main_v6
          {main_v0_0, main_v0_1, main_c, main_v2, main_cst, main_v4})))))) by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide)]

set_option backward.isDefEq.respectTransparency.types false in
/-- @main on a device's TensorCore. -/
theorem hmain (g : Dev nD → S33554432.Idx → Option (Elt F .f32)) (κ : GSem nD τ sig → ℕ) (d : Dev nD) :
    iprop((K (F := F)).ctx EH (P (arraysOf m g)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m (arraysOf m g) d ∗ (K (F := F)).tcEnd d) := by
  unfold SparseCore.Cfg.tcRes SparseCore.Cfg.tcEnd
  rw [main_eq, show (unscopedBufs d (fun b => m ((SparseCore.T d).loc b)) : sProp (MM F))
    = StableHlo.held (d.tc : Thread nD τ) (Pipeline.ucRefs τ sig) (StableHlo.launchContents m d) from
    Pipeline.unscopedBufs_held d (StableHlo.launchContents m d)]
  iintro ⟨#Hctx, Hst, ⟨Hb, Hbufs, Hts, -⟩, ⟨%ι, #Hwm⟩⟩
  iapply (StableHlo.wp_seq 𝒱 none Set.univ d (Pipeline.ucRefs τ sig) _ (ops (F := F))
    (fun op h => Pipeline.sub_ucRefs op (ops_sub op h)) ops_fresh (StableHlo.launchContents m d)) $$ [Hb Hbufs]
  · isplitl [Hb] <;> iassumption
  iintro ⟨Hb, Hbufs⟩
  ihave Hbufs := (Entails.of_eq ((Pipeline.unscopedBufs_held d (held' m d)).symm.trans (unscopedBufs_eq d _))) $$ Hbufs
  icases Hbufs with ⟨H0, H1, HV, H2, H3, H4, Ho, -⟩
  rw [held'_arg0, held'_arg1, held'_arg2, held'_v1, held'_v3, held'_v5, held'_v6]
  rw [wp_bind]
  imod (pointsTo_castIn (emb := wemb (F := F)) (ιwm := ι) (ℓ := lo d) (g d)) $$ [Ho] with Ho
  · isplitr; · iexact Hwm
    iexact Ho
  iapply ((K (F := F)).wp_run (D (F := F)) 𝒱 (EH := EH) (P := P (arraysOf m g)) κ d 0)
  isplitr; · iexact Hctx
  isplitl [Hst]; · iexact Hst
  isplitl [H2 H3 H4 Ho]
  · rw [st_all]
    unfold carry arraysOf
    isplitl [H2]; · iexact H2
    isplitl [H3]; · iexact H3
    isplitl [H4]; · iexact H4
    iexact Ho
  iintro ⟨Hst, Hdn⟩
  ihave Hdn := (Entails.of_eq (dn_all (arraysOf m g) d)) $$ Hdn
  unfold carry
  icases Hdn with ⟨-, -, -, Ho⟩
  rw [wp_pure]
  imod (willBeTo_castOut (emb := wemb (F := F)) (ιwm := ι) (ℓ := lo d)) $$ [Ho] with ⟨%f', %hf', Ho⟩
  · isplitr; · iexact Hwm
    iexact Ho
  imodintro
  isplitl [Hst]; · iexact Hst
  isplitr [Hb Hts]
  · unfold FIN
    isplitl [H0]; · iexact H0
    isplitl [H1]; · iexact H1
    isplitl [HV]; · iexact HV
    iexists f'
    isplitr; · ipureintro; exact fun i => hf' i (Finset.mem_univ i)
    iexact Ho
  isplitl [Hb] <;> iassumption

/-! ## The final memory -/

/-- What a run ends with on device `d`. -/
def fq (a : Dev nD → Arrays F) (d : Dev nD) (s : MemSt nD τ sig (Elt F)) : Prop :=
  s.mem (loc0 d) = m (loc0 d) ∧ s.mem (loc1 d) = m (loc1 d) ∧ s.mem (locV d) = m (locV d) ∧ Marked (a d) (s.mem (lo d))

theorem hfin (a : Dev nD → Arrays F) (d : Dev nD) (s' : Phys nD τ sig (Elt F)) :
    iprop(FIN m a d ∗ SI s') ⊢ (⌜fq m a d s'.mem⌝ : sProp (MM F)) := by
  unfold FIN
  iintro ⟨⟨H0, H1, HV, ⟨%f', %hf', Ho⟩⟩, HSI⟩
  ihave H := (persistent_entails_right (SI_pointsTo_agree (st := s') (ℓ := loc0 d) (I := Finset.univ) (q := fullShare) (f := memArg m d))) $$ [HSI H0]
  · isplitl [HSI] <;> iassumption
  icases H with ⟨%h0, HSI, -⟩
  ihave H := (persistent_entails_right (SI_pointsTo_agree (st := s') (ℓ := loc1 d) (I := Finset.univ) (q := fullShare) (f := idxArg m d))) $$ [HSI H1]
  · isplitl [HSI] <;> iassumption
  icases H with ⟨%h1, HSI, -⟩
  ihave H := (persistent_entails_right (SI_pointsTo_agree (st := s') (ℓ := locV d) (I := Finset.univ) (q := fullShare) (f := valArg m d))) $$ [HSI HV]
  · isplitl [HSI] <;> iassumption
  icases H with ⟨%hv, HSI, -⟩
  ihave H := (SI_pointsTo_agree (st := s') (ℓ := lo d) (I := Finset.univ) (q := fullShare) (f := f')) $$ [HSI Ho]
  · isplitl [HSI] <;> iassumption
  icases H with %ho
  ipureintro
  refine ⟨funext fun i => h0 i (Finset.mem_univ i), funext fun i => h1 i (Finset.mem_univ i), funext fun i => hv i (Finset.mem_univ i), ?_⟩
  rw [show s'.mem.mem (lo d) = f' from funext fun i => ho i (Finset.mem_univ i)]
  exact hf'

/-- What every run of the program ends with, for any targets that the arrays agree with. -/
def QC (a : Dev nD → Arrays F) : PUnit × MemSt nD τ sig (Elt F) → Prop :=
  fun r => (∀ d, fq m a d r.2) ∧ r.2.sem = fun _ => 0

theorem run_main [∀ e, Nonempty (Elt F e)] (g : Dev nD → S33554432.Idx → Option (Elt F .f32)) (ha : ∀ d, (arraysOf m g d).OK) :
    θ_run (Cert.KernelIdeal.defs (F := F)) (Cert.KernelIdeal.threads (F := F)) ⟨m, fun _ => 0, ρ⟩ (QC m (arraysOf m g)) :=
  SparseCore.Cfg.θ_run_sc_quiescent (K := K (F := F)) (D := D (F := F)) (𝒱 := 𝒱) (EH := EH) (P := P (arraysOf m g)) (A := ∅) facts v₀
    (fun q hq => match q with | 0 => nomatch hq)
    (fun q _ => match q with | 0 => tileObl (arraysOf m g) facts ha)
    (fun q _ => match q with | 0 => SparseCore.Cfg.VecSplit.of_plain (vecSplit (arraysOf m g)))
    m ρ main G (FIN m (arraysOf m g)) (u₀ (F := F)) (sep_elim_left.trans (hu₀ m ρ (arraysOf m g))) (hmain m ρ g)
    (fun d s' => fq m (arraysOf m g) d s'.mem) (hfin m (arraysOf m g)) (QC m (arraysOf m g)) (fun _ h hz => ⟨h, hz⟩)

end Cert.Proof.Scatter

end
-- ==== Proof.Targets.lean ====
/-
  What the call is given, in terms of the arguments: the sorted pairs are the pairs in another order, the lists and the
  padded arrays hold them, and the targets of the slots agree with them.
-/
module

public import proofs.«01_k».proof.Proof.Main
public import Idealize.ShloMosaic.Lib.SortFacts
public import Idealize.ShloMosaic.Lib.Pointwise.SelectCore
public import Idealize.ShloMosaic.Lib.Pipeline.Value

@[expose] public section

noncomputable section

namespace Cert.Proof.Scatter

open Cert.KernelIdeal Cert.KernelIdeal.Gen
open Idealize.ShloMosaic
open Idealize.SL.Sem

variable {F : FTy → Type} [FloatOps F]
variable (m : (ℓ : Loc nD τ sig) → Buf (Elt F) ℓ) (d : Dev nD)

/-! ## The sort permutes the pairs -/

/-- A sort of two vectors by one comparison reads both through one surjective map of the positions. -/
theorem sort_vectors {N : ℕ} {α β : Type} (cmp : α × β → α × β → BitVec 1) (x : (⟨1, ![N]⟩ : Shape).Idx → α)
    (y : (⟨1, ![N]⟩ : Shape).Idx → β) :
    ∃ σ : (⟨1, ![N]⟩ : Shape).Idx → (⟨1, ![N]⟩ : Shape).Idx, Function.Surjective σ
      ∧ Host.unstableSort2 ⟨1, ![N]⟩ 0 cmp x y = (fun j => x (σ j), fun j => y (σ j)) := by
  refine ⟨fun j => Shape.Idx.ofFin (sortedFrom (unstableBefore ⟨1, ![N]⟩ 0 cmp
    fun k : Fin N => (x (Shape.Idx.ofFin k), y (Shape.Idx.ofFin k))) (j 0)), fun p => ?_, by unfold Host.unstableSort2; simp⟩
  obtain ⟨k, hk⟩ := sortedFrom_surjective (unstableBefore ⟨1, ![N]⟩ 0 cmp
    fun k : Fin N => (x (Shape.Idx.ofFin k), y (Shape.Idx.ofFin k))) (p 0)
  refine ⟨Shape.Idx.ofFin k, ?_⟩
  dsimp only
  rw [Shape.Idx.ofFin_zero, hk]
  exact (Shape.Idx.eq_ofFin p).symm

/-- Every sorted pair is a pair of the arguments, and every pair is a sorted one. -/
theorem sorted_perm : ∃ σ : S1048576.Idx → S1048576.Idx, Function.Surjective σ
    ∧ (∀ j, sortedIdx m d j = idxArg m d (σ j)) ∧ ∀ j, sortedVal m d j = valArg m d (σ j) := by
  obtain ⟨σ, hσ, h⟩ := sort_vectors (comparator_i32_f32_d0 (F := F)) (idxArg m d) (valArg m d)
  exact ⟨σ, hσ, fun j => congrFun (congrArg Prod.fst h) j, fun j => congrFun (congrArg Prod.snd h) j⟩

/-! ## The lists and the padded arrays at an index -/

theorem wordsOf_at (k : ℕ) (h : k < 1048576) : wordsOf m d (at1 k (by omega)) = sortedIdx m d (at1 k h) := by
  unfold wordsOf
  rw [concatenate_pair_apply]
  exact (dif_pos (show (k < 1048576) from h)).trans (congrArg _ (ext1 rfl))

theorem valsOf_at (k : ℕ) (h : k < 1048576) : valsOf m d (at1 k (by omega)) = sortedVal m d (at1 k h) := by
  unfold valsOf
  rw [concatenate_pair_apply]
  exact (dif_pos (show (k < 1048576) from h)).trans (congrArg _ (ext1 rfl))

theorem wordsOf_pad (k : ℕ) (h : k < 1048592) (h' : ¬ k < 1048576) : wordsOf m d (at1 k h) = 4294967295#32 := by
  unfold wordsOf
  rw [concatenate_pair_apply]
  exact (dif_neg (show ¬ (k < 1048576) from h')).trans rfl

theorem listsOf_at (r x : ℕ) (hr : r < 8192) (hx : x < 128) :
    listsOf m d (at2 r x hr hx) = sortedIdx m d (at1 (128 * r + x) (by omega)) := by
  unfold listsOf
  refine shapeCast_apply _ _ _ _ ?_
  rw [Shape.rowMajor_val_one, Shape.rowMajor_val_two]
  show 128 * r + x = r * 128 + x
  omega

/-! ## The targets -/

/-- The index words all name a slot. -/
def Ranged : Prop := ∀ p, (idxArg m d p).toNat < 33554432

/-- Slot `i` is named by some update, and every update naming it carries `x`. -/
def Agreed (i : S33554432.Idx) (x : Elt F .f32) : Prop :=
  (∃ p, (i 0).val = (idxArg m d p).toNat) ∧ ∀ p, (i 0).val = (idxArg m d p).toNat → valArg m d p = x

open Classical in
/-- A slot's target: the value that every update naming it carries, where there is one. -/
def target (i : S33554432.Idx) : Option (Elt F .f32) :=
  if h : ∃ x, Agreed m d i x then some h.choose else none

theorem target_spec {i : S33554432.Idx} {u : Elt F .f32} (h : target m d i = some u) : Agreed m d i u := by
  unfold target at h
  split at h
  · next hx => rw [← Option.some.inj h]; exact hx.choose_spec
  · cases h

theorem target_of {i : S33554432.Idx} {x : Elt F .f32} (h : Agreed m d i x) : target m d i = some x := by
  have hx : ∃ x, Agreed m d i x := ⟨x, h⟩
  unfold target
  rw [dif_pos hx]
  obtain ⟨p, hp⟩ := h.1
  exact congrArg some ((hx.choose_spec.2 p hp).symm.trans (h.2 p hp))

/-- What the call is given is as its run asks. -/
theorem words_ok (h : Ranged m d) : (arraysOf m (target m) d).OK := by
  obtain ⟨σ, -, hi, hv⟩ := sorted_perm m d
  refine ⟨fun x => ?_, fun r x hr hx => ?_, fun x => ?_⟩
  · obtain ⟨r, c, hr, hc, rfl⟩ : ∃ (r c : ℕ) (hr : r < 8192) (hc : c < 128), x = at2 r c hr hc :=
      ⟨(x 0).val, (x 1).val, (x 0).isLt, (x 1).isLt, ext2 rfl rfl⟩
    show (listsOf m d _).toNat < 33554432
    rw [listsOf_at, hi]
    exact h _
  · show listsOf m d (at2 r x hr hx) = wordsOf m d _
    rw [listsOf_at, wordsOf_at]
  · obtain ⟨k, hk, rfl⟩ : ∃ (k : ℕ) (hk : k < 1048592), x = at1 k hk := ⟨(x 0).val, (x 0).isLt, ext1 rfl⟩
    show adm (target m d) (wordsOf m d _) (valsOf m d _)
    intro i hx u hu
    by_cases hlt : k < 1048576
    · rw [wordsOf_at m d _ hlt, hi] at hx
      rw [valsOf_at m d _ hlt, hv]
      exact (target_spec m d hu).2 _ hx
    · rw [wordsOf_pad m d _ _ hlt] at hx
      have h1 : (i 0).val = 4294967295 := hx
      have h2 : (i 0).val < 33554432 := (i 0).isLt
      omega

/-! ## The slots that the lists name -/

/-- The slots marked by the call are the ones that some update names. -/
theorem mem_allSlots_listsOf (i : S33554432.Idx) : i ∈ allSlots (listsOf m d) ↔ ∃ p, (i 0).val = (idxArg m d p).toNat := by
  obtain ⟨σ, hσ, hi, -⟩ := sorted_perm m d
  constructor
  · intro h
    obtain ⟨c, h⟩ := mem_allSlots.1 h
    obtain ⟨s, h⟩ := mem_coreSlots.1 h
    obtain ⟨k, h⟩ := mem_tileSlots.1 h
    unfold chunkSlots at h
    obtain ⟨j, x, hj, e⟩ := (Finset.mem_filter.1 h).2
    rw [listsOf_at, hi] at e
    exact ⟨_, e⟩
  · rintro ⟨p, e⟩
    obtain ⟨q, rfl⟩ := hσ p
    rw [← hi] at e
    have hq : (q 0).val < 1048576 := (q 0).isLt
    refine mem_allSlots.2 ⟨⟨(q 0).val / 32768 % 2, by omega⟩, mem_coreSlots.2 ⟨⟨(q 0).val / 65536, by omega⟩, mem_tileSlots.2
      ⟨⟨(q 0).val / 2048 % 16, by omega⟩, ?_⟩⟩⟩
    unfold chunkSlots
    refine Finset.mem_filter.2 ⟨Finset.mem_univ _, ⟨(q 0).val / 128 % 16, by omega⟩, ⟨(q 0).val % 128, by omega⟩, ?_, ?_⟩
    · dsimp only; omega
    · dsimp only
      rw [listsOf_at, e]
      refine congrArg (fun z => (sortedIdx m d z).toNat) (ext1 ?_)
      show (q 0).val = 128 * (((q 0).val / 65536 * 2 + (q 0).val / 32768 % 2) * 256 + 16 * ((q 0).val / 2048 % 16) + (q 0).val / 128 % 16) + (q 0).val % 128
      omega

/-- So the final result holds, at every named slot all of whose updates agree, their value; and at every other slot that
    is not named what was there before. -/
theorem marked_at {f' : S33554432.Idx → Elt F .f32} (h : Marked (arraysOf m (target m) d) f') (i : S33554432.Idx) :
    ((∀ p, (i 0).val ≠ (idxArg m d p).toNat) → f' i = memArg m d i) ∧ ∀ x, Agreed m d i x → f' i = x := by
  have hm := mem_allSlots_listsOf m d i
  refine ⟨fun hn => (h i).1 fun hi => ?_, fun x hx => (h i).2 (hm.2 hx.1) x (target_of m d hx)⟩
  obtain ⟨p, hp⟩ := hm.1 hi
  exact hn p hp

end Cert.Proof.Scatter

end
-- ==== Proof.Ref.lean ====
/-
  What the preconditions say of the arguments, and what the reference's scatter holds at a slot: the operand's element at
  a slot that no update names, and at a named slot the value that each update naming it carries, since the precondition
  has every update read its own value back.
-/
module

public import proofs.«01_k».proof.Defs
public import Idealize.ShloMosaic.Lib.Routing.OpsSet

@[expose] public section

noncomputable section

namespace Cert.Proof.Scatter

open Idealize.ShloMosaic Idealize.ShloMosaic.ValueIdx

/-! ## Where an update lands -/

/-- An update of a scatter of single elements into a vector, with one index word each, lands (if anywhere) at the
    position that its index word names. -/
theorem lands_named {N M : ℕ} (d : ScatterDims ⟨1, ![N]⟩ ⟨2, ![M, 1]⟩ ⟨1, ![M]⟩) (hi : d.insertedWindowDims = [0])
    (hs : d.scatterDimsToOperandDims = [0]) (hv : d.indexVectorDim = 1) (idx : IVec ⟨2, ![M, 1]⟩ 32) (p : Fin M)
    (x : (⟨1, ![N]⟩ : Shape).Idx) (h : d.resultIdx? (ix1 p) idx = some x) :
    (idx (ix2 p (0 : Fin 1))).toInt = ((x 0).val : ℤ) := by
  have hmem : (0 : Fin 1) ∈ d.scatterDimsToOperandDims := by rw [hs]; exact List.mem_singleton_self _
  -- the index word that the update reads
  have hread : d.siIdx (ix1 p) ⟨d.scatterDimsToOperandDims.idxOf 0, List.idxOf_lt_length_iff.2 hmem⟩ = ix2 p (0 : Fin 1) := by
    refine funext fun b => ?_
    match b with
    | ⟨1, _⟩ => exact Subsingleton.elim (α := Fin 1) _ _
    | ⟨0, h0⟩ =>
      refine Fin.ext ?_
      rw [ScatterDims.siIdx, dif_neg (by rw [hv]; exact Nat.zero_ne_one), ScatterDims.siCoord, Fin.val_cast]
      exact congrArg (fun a : Fin 1 => (ix1 p a).val) (Subsingleton.elim (α := Fin 1) _ 0)
  have hst : d.start (ix1 p) idx 0 = (idx (ix2 p (0 : Fin 1))).toInt := by rw [ScatterDims.start, dif_pos hmem, hread]
  have hw : d.window (ix1 p) 0 = 0 := by
    rw [ScatterDims.window, dif_neg]
    intro hk
    exact of_decide_eq_true (List.mem_filter.1 hk).2 (by rw [hi]; exact List.mem_singleton_self _)
  unfold ScatterDims.resultIdx? at h
  split at h
  · next hin =>
    have e := congrArg (fun y : (⟨1, ![N]⟩ : Shape).Idx => (y 0).val) (Option.some.inj h)
    have h0 := (hin 0).1
    change (d.start (ix1 p) idx 0 + (d.window (ix1 p) 0 : ℤ)).toNat = (x 0).val at e
    rw [hst, hw] at e h0
    omega
  · cases h

/-! ## The preconditions, read off -/

private theorem and_bits (p q : Bool) : IntOp.andi (BitVec.ofBool p) (BitVec.ofBool q) = BitVec.ofBool (p && q) := by
  cases p <;> cases q <;> decide

private theorem bit_one (p : Bool) : BitVec.ofBool p = 1#1 ↔ p = true := by cases p <;> decide

private theorem and_one (x y : BitVec 1) : IntOp.andi x y = 1#1 → x = 1#1 ∧ y = 1#1 := by
  revert x y; decide

/-- A word that is signed at least 0 and less than 33554432 is less than 33554432. -/
theorem word_range (v : BitVec 32) (e : IntOp.andi (IntOp.cmpi .sge v 0#32) (IntOp.cmpi .slt v 33554432#32) = 1#1) :
    v.toNat < 33554432 := by
  simp only [IntOp.cmpi, and_bits, bit_one, Bool.and_eq_true, BitVec.sle_eq_decide, BitVec.slt_eq_decide,
    decide_eq_true_eq, BitVec.toInt_eq_toNat_cond, BitVec.toNat_ofNat, Nat.reducePow, Nat.reduceMod] at e
  omega

/-- A word in that range is not negative, so the index that the reference makes of it is the word. -/
theorem word_kept (v : BitVec 32) (h : v.toNat < 33554432) :
    (if IntOp.cmpi .slt v 0#32 = 1#1 then IntOp.addi v 33554432#32 else v) = v := by
  refine if_neg fun e => ?_
  simp only [IntOp.cmpi, bit_one, BitVec.slt_eq_decide, decide_eq_true_eq, BitVec.toInt_eq_toNat_cond, BitVec.toNat_ofNat,
    Nat.reducePow, Nat.reduceMod] at e
  omega

/-- Two extended reals that compare equal are equal. -/
theorem eq_of_cmp (x y : Ideal .f32) (h : FloatOps.cmpf (F := Ideal) .oeq x y = 1#1) : x = y := by
  change BitVec.ofBool (decide (x = y)) = 1#1 at h
  exact of_decide_eq_true ((bit_one _).1 h)

section Range

variable {F : FTy → Type} [FloatOps F] [Cert.Pre_idx_in_range.Facts]

theorem range_of_pre {mem : FVec F Cert.Pre_idx_in_range.S33554432 .f32} {idx : IVec Cert.Pre_idx_in_range.S1048576 32}
    {val : FVec F Cert.Pre_idx_in_range.S1048576 .f32} (h : Cert.Pre_idx_in_range.fn mem idx val = fun _ => 1#1) :
    ∀ p, (idx p).toNat < 33554432 := by
  intro p
  have e := congrFun h p
  simp only [Cert.Pre_idx_in_range.fn, andi, cmpi, broadcastInDim, constantI] at e
  exact word_range _ e

end Range

section Agree

open Cert.Pre_updates_agree

variable [Cert.Pre_updates_agree.Facts]
variable (mem : FVec Ideal S33554432 .f32) (idx : IVec S1048576 32) (val : FVec Ideal S1048576 .f32)

/-- The index words as the scatter takes them: a negative one counted from the end, and one more axis. -/
def starts : IVec S1048576x1 32 :=
  broadcastInDim S1048576x1 ![0] Facts.bcast_S1048576_S1048576x1_0
    (select (cmpi .slt idx (broadcastInDim S1048576 ![] Facts.bcast_S_S1048576 (constantI S_ 32 0#32)))
      (addi idx (broadcastInDim S1048576 ![] Facts.bcast_S_S1048576 (constantI S_ 32 33554432#32))) idx)

/-- The array that the reference computes. -/
def scattered : FVec Ideal S33554432 .f32 :=
  Host.scatter scatter_S33554432_S1048576x1_S1048576_n_0_0_1 (fun _ b => b) mem (starts idx) val

/-- The precondition: every index names a slot, and every update's value is what the scattered array holds where the
    update goes. -/
theorem agree_of_pre (h : fn mem idx val = fun _ => 1#1) (p : S1048576.Idx) :
    (idx p).toNat < 33554432 ∧
      Host.gather gather_S33554432_S1048576x1_S1048576_n_0_n_n_0_1_1 (scattered mem idx val) (starts idx) p = val p := by
  have hf : fn mem idx val = andi (andi (cmpi .sge idx (broadcastInDim S1048576 ![] Facts.bcast_S_S1048576 (constantI S_ 32 0#32)))
      (cmpi .slt idx (broadcastInDim S1048576 ![] Facts.bcast_S_S1048576 (constantI S_ 32 33554432#32))))
      (cmpf .oeq (Host.gather gather_S33554432_S1048576x1_S1048576_n_0_n_n_0_1_1 (scattered mem idx val) (starts idx)) val) := rfl
  have e := congrFun (hf.symm.trans h) p
  simp only [andi, cmpi, cmpf, broadcastInDim, constantI] at e
  obtain ⟨h1, h2⟩ := and_one _ _ e
  refine ⟨word_range _ h1, ?_⟩
  exact eq_of_cmp _ _ h2

variable (hr : ∀ p, (idx p).toNat < 33554432)

include hr in
theorem starts_at (p : Fin 1048576) : starts idx (ix2 p (0 : Fin 1)) = idx (ix1 p) := by
  have hp : ∀ q : S1048576.Idx, (q 0).val = p.val → select (cmpi .slt idx (broadcastInDim S1048576 ![] Facts.bcast_S_S1048576 (constantI S_ 32 0#32)))
      (addi idx (broadcastInDim S1048576 ![] Facts.bcast_S_S1048576 (constantI S_ 32 33554432#32))) idx q = idx (ix1 p) := fun q hq => by
    obtain ⟨k, rfl⟩ : ∃ k : Fin 1048576, q = ix1 k := ⟨q 0, eq_ix1 q⟩
    obtain rfl : k = p := Fin.ext hq
    simp only [select, cmpi, addi, broadcastInDim, constantI]
    exact word_kept _ (hr _)
  exact hp _ rfl

include hr in
/-- At a slot that no update names the scattered array is the operand. -/
theorem scattered_unnamed (x : S33554432.Idx) (hn : ∀ p, (x 0).val ≠ (idx p).toNat) : scattered mem idx val x = mem x := by
  refine Routing.scatter_set_miss _ _ _ _ _ fun k hk => ?_
  obtain ⟨p, rfl⟩ : ∃ p : Fin 1048576, k = ix1 p := ⟨k 0, eq_ix1 k⟩
  have e := lands_named scatter_S33554432_S1048576x1_S1048576_n_0_0_1 rfl rfl rfl (starts idx) p x hk
  rw [starts_at idx hr, BitVec.toInt_eq_toNat_cond] at e
  have h1 := hr (ix1 p)
  refine hn (ix1 p) ?_
  split at e <;> omega

/-- Under the precondition, at a slot that an update names the scattered array holds the update's value. -/
theorem scattered_named (h : fn mem idx val = fun _ => 1#1) (x : S33554432.Idx) (p : S1048576.Idx)
    (hp : (x 0).val = (idx p).toNat) : scattered mem idx val x = val p := by
  have hr : ∀ p, (idx p).toNat < 33554432 := fun p => (agree_of_pre mem idx val h p).1
  rw [← (agree_of_pre mem idx val h p).2]
  obtain ⟨p, rfl⟩ : ∃ q : Fin 1048576, p = ix1 q := ⟨p 0, eq_ix1 p⟩
  obtain ⟨x, rfl⟩ : ∃ y : Fin 33554432, x = ix1 y := ⟨x 0, eq_ix1 x⟩
  refine (Routing.gather_take1 gather_S33554432_S1048576x1_S1048576_n_0_n_n_0_1_1 rfl rfl rfl rfl (scattered mem idx val)
    (starts idx) p x ?_ (by decide)).symm
  rw [starts_at idx hr]
  refine BitVec.eq_of_toNat_eq ?_
  rw [BitVec.toNat_ofNat]
  change x.val = _ at hp
  have := x.isLt
  omega

end Agree

end Cert.Proof.Scatter

end
-- ==== Proof.Claims.lean ====
/-
  The claims: the frames of the kernel at both float instances and of the reference, and the equality of the two results.
-/
module

public import proofs.«01_k».proof.Proof.Targets
public import proofs.«01_k».proof.Proof.Ref
public import proofs.«01_k».proof.Proof.Gen.Kernel
public import proofs.«01_k».proof.Proof.Gen.ReferenceIdeal.Run
public import Idealize.ShloMosaic.Lib.Quiescent

@[expose] public section

noncomputable section

namespace Cert.Proof.Scatter

open Idealize.ShloMosaic
open Idealize.SL.Sem

/-! ## The side conditions of the preconditions -/

theorem pre_range_facts : Cert.Pre_idx_in_range.Facts where
  bcast_S_S1048576 := by decide

theorem pre_agree_facts : Cert.Pre_updates_agree.Facts where
  bcast_S_S1048576 := by decide
  bcast_S1048576_S1048576x1_0 := by decide
  scatter_S33554432_S1048576x1_S1048576_n_0_0_1_wf := by decide
  gather_S33554432_S1048576x1_S1048576_n_0_n_n_0_1_1_wf := by decide

attribute [local instance] pre_range_facts pre_agree_facts

/-! ## The kernel -/

/-- The kernel's run from index words that name slots. -/
theorem run_of_ranged {F : FTy → Type} [FloatOps F] [∀ e, Nonempty (Elt F e)]
    (m : (ℓ : Loc Cert.KernelIdeal.nD Cert.KernelIdeal.τ Cert.KernelIdeal.sig) → Buf (Elt F) ℓ)
    (ρ : Dev Cert.KernelIdeal.nD → PrngReg) (h : ∀ d, Ranged m d) :
    θ_run (Cert.KernelIdeal.defs (F := F)) (Cert.KernelIdeal.threads (F := F)) ⟨m, fun _ => 0, ρ⟩
      (QC m (arraysOf m (target m))) :=
  run_main m ρ (target m) fun d => words_ok m d (h d)

/-- `Cert.quiescent_Kernel` (Defs.lean). -/
theorem frame_kernel : Cert.quiescent_Kernel := fun m ρ hp =>
  (θ_run Cert.KernelIdeal.defs _ _).mono (fun _ h => ⟨fun c => ⟨(h.1 c).1, (h.1 c).2.1, (h.1 c).2.2.1⟩, h.2⟩)
    (run_of_ranged (F := Bits) m ρ fun d => range_of_pre (hp d))

/-- `Cert.quiescent_KernelIdeal` (Defs.lean). -/
theorem frame_ideal : Cert.quiescent_KernelIdeal := fun m ρ hp =>
  (θ_run Cert.KernelIdeal.defs _ _).mono (fun _ h => ⟨fun c => ⟨(h.1 c).1, (h.1 c).2.1, (h.1 c).2.2.1⟩, h.2⟩)
    (run_of_ranged (F := Ideal) m ρ fun d => range_of_pre (hp d))

/-- `Cert.quiescent_KernelIdeal_pre_updates_agree` (Defs.lean). -/
theorem frame_ideal_agree : Cert.quiescent_KernelIdeal_pre_updates_agree := fun m ρ hp =>
  (θ_run Cert.KernelIdeal.defs _ _).mono (fun _ h => ⟨fun c => ⟨(h.1 c).1, (h.1 c).2.1, (h.1 c).2.2.1⟩, h.2⟩)
    (run_of_ranged (F := Ideal) m ρ fun d p => (agree_of_pre _ _ _ (hp d) p).1)

/-! ## The reference -/

/-- `Cert.quiescent_ReferenceIdeal` (Defs.lean). -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.quiescent_ReferenceIdeal_pre_updates_agree` (Defs.lean). -/
theorem frame_reference_agree : Cert.quiescent_ReferenceIdeal_pre_updates_agree := fun m ρ _ => frame_reference m ρ trivial

/-! ## The two results -/

/-- Under the precondition the array that the kernel leaves is the one that the reference computes. -/
theorem result_eq (m : (ℓ : Loc Cert.KernelIdeal.nD Cert.KernelIdeal.τ Cert.KernelIdeal.sig) → Buf (Elt Ideal) ℓ)
    (d : Dev Cert.KernelIdeal.nD) (hp : Cert.Pre_updates_agree.fn (memArg m d) (idxArg m d) (valArg m d) = fun _ => 1#1)
    {f' : Cert.KernelIdeal.S33554432.Idx → Elt Ideal .f32} (h : Marked (arraysOf m (target m) d) f') :
    f' = scattered (memArg m d) (idxArg m d) (valArg m d) := by
  refine funext fun i => ?_
  obtain ⟨hn, hy⟩ := marked_at m d h i
  by_cases hi : ∃ p, (i 0).val = (idxArg m d p).toNat
  · exact hy _ ⟨hi, fun p e => (scattered_named _ _ _ hp i p e).symm⟩
  · have hno : ∀ p, (i 0).val ≠ (idxArg m d p).toNat := fun p e => hi ⟨p, e⟩
    exact (hn hno).trans (scattered_unnamed _ _ _ (fun p => (agree_of_pre _ _ _ hp p).1) i hno).symm

/-- `Cert.algebraic_KernelIdeal_ReferenceIdeal_pre_updates_agree` (Defs.lean). -/
theorem algebraic : Cert.algebraic_KernelIdeal_ReferenceIdeal_pre_updates_agree := by
  intro m ρ m' ρ' hp hm
  refine ⟨fun d => scattered (memArg m d) (idxArg m d) (valArg m d),
    (θ_run Cert.KernelIdeal.defs _ _).mono (fun _ h d => ⟨result_eq m d (hp d) (h.1 d).2.2.2, (h.1 d).1, (h.1 d).2.1, (h.1 d).2.2.1⟩)
      (run_of_ranged (F := Ideal) m ρ fun d p => (agree_of_pre _ _ _ (hp d) p).1),
    (θ_run Cert.ReferenceIdeal.defs _ _).mono (fun _ h d => ⟨(h d).1.trans ?_, (h d).2⟩)
      (Cert.ReferenceIdeal.Value.run (F := Ideal) m' ρ')⟩
  obtain ⟨h0, h1, h2⟩ := hm d
  rw [h0, h1, h2]
  rfl

end Cert.Proof.Scatter

end
-- ==== Proof.lean ====
/-
  The certificate's claim, assembled: the modules under Proof/ prove each part (Claims.lean the parts as they are claimed,
  Main.lean the run of the kernel's whole program, Targets.lean and Ref.lean what the two programs compute).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Claims

@[expose] public section

noncomputable section

namespace Cert.Proof

/-- Every claim of the certificate. -/
theorem claim : Cert.Claim :=
  ⟨Cert.Kernel.Gen.facts, Cert.KernelIdeal.Gen.facts, Cert.ReferenceIdeal.Gen.facts, Scatter.pre_range_facts, Scatter.pre_agree_facts,
    Scatter.frame_kernel, Scatter.frame_ideal, Scatter.frame_ideal_agree, Scatter.frame_reference, Scatter.frame_reference_agree,
    trivial, Scatter.algebraic⟩

end Cert.Proof

end
